-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x64x512x512 : Shape := ⟨4, ![8, 64, 512, 512]⟩
abbrev S64 : Shape := ⟨1, ![64]⟩
abbrev S_ : Shape := ⟨0, ![]⟩

class Facts : Prop where
  bcast_S_S8x64x512x512 : S_.BroadcastsInDim S8x64x512x512 (![] : Fin 0 → Fin S8x64x512x512.rank)
  reducesTo_S8x64x512x512_S_d0_1_2_3 : S8x64x512x512.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S8x64x512x512 .f32) (main_arg1 : FVec F S64 .f32) (main_arg2 : FVec F S64 .f32) : IVec S_ 1 :=
  let main_v0 : FVec F S8x64x512x512 .f32 := Host.absf main_arg0
  let main_cst : FVec F S_ .f32 := constant S_ .f32 0x7F800000#32
  let main_v1 : FVec F S8x64x512x512 .f32 := broadcastInDim S8x64x512x512 ![] bcast_S_S8x64x512x512 main_cst
  let main_v2 : IVec S8x64x512x512 1 := cmpf .olt main_v0 main_v1
  let main_c : IVec S_ 1 := constantI S_ 1 1#1
  let main_v3 : IVec S_ 1 := (fun x v => Host.reduce IntOp.andi x v reducesTo_S8x64x512x512_S_d0_1_2_3 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S8x64x512x512 : Shape := ⟨4, ![8, 64, 512, 512]⟩
abbrev S64 : Shape := ⟨1, ![64]⟩
abbrev S1x64x1x1 : Shape := ⟨4, ![1, 64, 1, 1]⟩
abbrev S1x64x64x512 : Shape := ⟨4, ![1, 64, 64, 512]⟩
abbrev S1x64x1x512 : Shape := ⟨4, ![1, 64, 1, 512]⟩
abbrev S1x1x1x512 : Shape := ⟨4, ![1, 1, 1, 512]⟩
abbrev S2x64x1x1 : Shape := ⟨4, ![2, 64, 1, 1]⟩
abbrev S1x64x512 : Shape := ⟨3, ![1, 64, 512]⟩
abbrev S1x1x64x512 : Shape := ⟨4, ![1, 1, 64, 512]⟩
abbrev S1x1x512 : Shape := ⟨3, ![1, 1, 512]⟩
abbrev S1x64x1 : Shape := ⟨3, ![1, 64, 1]⟩
abbrev S1x1x1 : Shape := ⟨3, ![1, 1, 1]⟩
abbrev S1x1x1x1 : Shape := ⟨4, ![1, 1, 1, 1]⟩

abbrev nBuf : Space → Nat
  | .hbm => 6
  | .vmem => 10
  | .smem => 0
  | _ => 0

abbrev bufTy : (tb : Table) → Fin (tcTables nBuf tb) → BufTy
  | .hbm, ⟨0, _⟩ => ⟨S8x64x512x512, .f32⟩
  | .hbm, ⟨1, _⟩ => ⟨S64, .f32⟩
  | .hbm, ⟨2, _⟩ => ⟨S64, .f32⟩
  | .hbm, ⟨3, _⟩ => ⟨S1x64x1x1, .f32⟩
  | .hbm, ⟨4, _⟩ => ⟨S1x64x1x1, .f32⟩
  | .hbm, ⟨5, _⟩ => ⟨S8x64x512x512, .f32⟩
  | .local _ .vmem, ⟨0, _⟩ => ⟨S1x64x64x512, .f32⟩
  | .local _ .vmem, ⟨1, _⟩ => ⟨S1x64x64x512, .f32⟩
  | .local _ .vmem, ⟨2, _⟩ => ⟨S1x64x1x1, .f32⟩
  | .local _ .vmem, ⟨3, _⟩ => ⟨S1x64x1x1, .f32⟩
  | .local _ .vmem, ⟨4, _⟩ => ⟨S1x64x64x512, .f32⟩
  | .local _ .vmem, ⟨5, _⟩ => ⟨S1x64x64x512, .f32⟩
  | .local _ .vmem, ⟨6, _⟩ => ⟨S1x64x1x512, .f32⟩
  | .local _ .vmem, ⟨7, _⟩ => ⟨S1x64x1x512, .f32⟩
  | .local _ .vmem, ⟨8, _⟩ => ⟨S1x1x1x512, .f32⟩
  | .local _ .vmem, ⟨9, _⟩ => ⟨S2x64x1x1, .f32⟩
  | _, _ => ⟨S8x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 16], ![false, false]⟩

def k0_cond4 (i : grid0.Coords) : BitVec 1 :=
  let arg1 : BitVec 32 := BitVec.ofNat 32 (i 1).val
  let c8_i32_4 : BitVec 32 := 8#32
  let v9 : BitVec 1 := Scalar.cmpi .sge arg1 c8_i32_4
  let v10 : BitVec 32 := Scalar.extui v9
  let c0_i32_5 : BitVec 32 := 0#32
  let v11 : BitVec 1 := Scalar.cmpi .ne v10 c0_i32_5
  v11

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c15_i32 : BitVec 32 := 15#32
  let v1 : BitVec 32 := Scalar.subi c15_i32 arg1
  let v2 : BitVec 32 := Scalar.select v0 arg1 v1
  let c0_i32 : BitVec 32 := 0#32
  let c0_i32_0 : BitVec 32 := 0#32
  let c0_i32_1 : BitVec 32 := 0#32
  ![arg0.toNat, c0_i32.toNat, v2.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c15_i32 : BitVec 32 := 15#32
  let v1 : BitVec 32 := Scalar.subi c15_i32 arg1
  let c7_i32 : BitVec 32 := 7#32
  let v2 : BitVec 32 := Scalar.select v0 c7_i32 v1
  let c0_i32 : BitVec 32 := 0#32
  let c0_i32_0 : BitVec 32 := 0#32
  let c0_i32_1 : BitVec 32 := 0#32
  ![arg0.toNat, c0_i32.toNat, v2.toNat, c0_i32_0.toNat]

abbrev stage0_0 : Fin 2 → Memref sig .tc .vmem S1x64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x64x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x64x512x512 : Shape := ⟨4, ![8, 64, 512, 512]⟩
abbrev S64 : Shape := ⟨1, ![64]⟩
abbrev S_ : Shape := ⟨0, ![]⟩
abbrev S8x512x512 : Shape := ⟨3, ![8, 512, 512]⟩
abbrev S8x1x512x512 : Shape := ⟨4, ![8, 1, 512, 512]⟩
abbrev S8x1 : Shape := ⟨2, ![8, 1]⟩
abbrev S8x1x1x1 : Shape := ⟨4, ![8, 1, 1, 1]⟩
abbrev S8x64 : Shape := ⟨2, ![8, 64]⟩
abbrev S8x64x1x1 : Shape := ⟨4, ![8, 64, 1, 1]⟩
abbrev S1x64x1x1 : Shape := ⟨4, ![1, 64, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S8x64x512x512, .f32⟩
  | .hbm, ⟨1, _⟩ => ⟨S64, .f32⟩
  | .hbm, ⟨2, _⟩ => ⟨S64, .f32⟩
  | .hbm, ⟨3, _⟩ => ⟨S8x64x512x512, .f32⟩
  | .hbm, ⟨4, _⟩ => ⟨S_, .f32⟩
  | .hbm, ⟨5, _⟩ => ⟨S8x512x512, .f32⟩
  | .hbm, ⟨6, _⟩ => ⟨S8x1x512x512, .f32⟩
  | .hbm, ⟨7, _⟩ => ⟨S_, .f32⟩
  | .hbm, ⟨8, _⟩ => ⟨S8x1x512x512, .f32⟩
  | .hbm, ⟨9, _⟩ => ⟨S8x1x512x512, .i1⟩
  | .hbm, ⟨10, _⟩ => ⟨S8x1x512x512, .f32⟩
  | .hbm, ⟨11, _⟩ => ⟨S_, .f32⟩
  | .hbm, ⟨12, _⟩ => ⟨S8x1, .f32⟩
  | .hbm, ⟨13, _⟩ => ⟨S8x1x1x1, .f32⟩
  | .hbm, ⟨14, _⟩ => ⟨S_, .f32⟩
  | .hbm, ⟨15, _⟩ => ⟨S8x1x1x1, .f32⟩
  | .hbm, ⟨16, _⟩ => ⟨S8x1x1x1, .f32⟩
  | .hbm, ⟨17, _⟩ => ⟨S8x64x512x512, .f32⟩
  | .hbm, ⟨18, _⟩ => ⟨S8x64x512x512, .f32⟩
  | .hbm, ⟨19, _⟩ => ⟨S_, .f32⟩
  | .hbm, ⟨20, _⟩ => ⟨S8x64, .f32⟩
  | .hbm, ⟨21, _⟩ => ⟨S8x64x1x1, .f32⟩
  | .hbm, ⟨22, _⟩ => ⟨S8x64x1x1, .f32⟩
  | .hbm, ⟨23, _⟩ => ⟨S8x64x1x1, .f32⟩
  | .hbm, ⟨24, _⟩ => ⟨S8x64x512x512, .f32⟩
  | .hbm, ⟨25, _⟩ => ⟨S8x64x512x512, .f32⟩
  | .hbm, ⟨26, _⟩ => ⟨S8x64x512x512, .f32⟩
  | .hbm, ⟨27, _⟩ => ⟨S8x64x512x512, .f32⟩
  | .hbm, ⟨28, _⟩ => ⟨S8x64x512x512, .f32⟩
  | .hbm, ⟨29, _⟩ => ⟨S_, .f32⟩
  | .hbm, ⟨30, _⟩ => ⟨S8x64, .f32⟩
  | .hbm, ⟨31, _⟩ => ⟨S8x64x1x1, .f32⟩
  | .hbm, ⟨32, _⟩ => ⟨S8x64x1x1, .f32⟩
  | .hbm, ⟨33, _⟩ => ⟨S8x64x1x1, .f32⟩
  | .hbm, ⟨34, _⟩ => ⟨S8x64x512x512, .f32⟩
  | .hbm, ⟨35, _⟩ => ⟨S8x64x512x512, .f32⟩
  | .hbm, ⟨36, _⟩ => ⟨S_, .f32⟩
  | .hbm, ⟨37, _⟩ => ⟨S8x64x1x1, .f32⟩
  | .hbm, ⟨38, _⟩ => ⟨S8x64x1x1, .f32⟩
  | .hbm, ⟨39, _⟩ => ⟨S8x64x1x1, .f32⟩
  | .hbm, ⟨40, _⟩ => ⟨S8x64x512x512, .f32⟩
  | .hbm, ⟨41, _⟩ => ⟨S8x64x512x512, .f32⟩
  | .hbm, ⟨42, _⟩ => ⟨S_, .f32⟩
  | .hbm, ⟨43, _⟩ => ⟨S8x1x512x512, .f32⟩
  | .hbm, ⟨44, _⟩ => ⟨S8x1x512x512, .i1⟩
  | .hbm, ⟨45, _⟩ => ⟨S8x64x512x512, .i1⟩
  | .hbm, ⟨46, _⟩ => ⟨S8x64x512x512, .f32⟩
  | .hbm, ⟨47, _⟩ => ⟨S_, .f32⟩
  | .hbm, ⟨48, _⟩ => ⟨S8x1x1x1, .f32⟩
  | .hbm, ⟨49, _⟩ => ⟨S8x1x1x1, .i1⟩
  | .hbm, ⟨50, _⟩ => ⟨S8x64x512x512, .i1⟩
  | .hbm, ⟨51, _⟩ => ⟨S8x64x512x512, .f32⟩
  | .hbm, ⟨52, _⟩ => ⟨S1x64x1x1, .f32⟩
  | .hbm, ⟨53, _⟩ => ⟨S8x64x512x512, .f32⟩
  | .hbm, ⟨54, _⟩ => ⟨S8x64x512x512, .f32⟩
  | .hbm, ⟨55, _⟩ => ⟨S1x64x1x1, .f32⟩
  | .hbm, ⟨56, _⟩ => ⟨S8x64x512x512, .f32⟩
  | .hbm, ⟨57, _⟩ => ⟨S8x64x512x512, .f32⟩
  | _, _ => ⟨S8x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_call1_v0 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Proof.Branch.lean ====
/- The branch conditions of the kernel body in closed form over the grid, and short names for the buffers the body
   is called with at a grid point. Grid point `t` is row `t / 16` of the batch and step `t % 16`: steps 0 to 7 add up
   the row's eight blocks, steps 8 to 15 go over the same blocks in the opposite order and write the result. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Body

open Idealize.ShloMosaic Idealize.ShloMosaic.TcCoe Idealize.SL Idealize.SL.RA Idealize.SL.BI Idealize.SL.Sem
open Idealize.SL.BI.BIBase
open Idealize.ShloMosaic.Rounds
open Cert.KernelIdeal Cert.KernelIdeal.Gen

variable {F : FTy → Type} [FloatOps F]

local notation "𝕄" => MT nD τ sig Unit (Elt F) ℕ (UR sig nD τ) ℕ

/-- The step is one of the summing steps. -/
abbrev summing (i : grid0.Coords) : Prop :=
  (Scalar.cmpi .ne (Scalar.extui (Scalar.cmpi .slt (BitVec.ofNat 32 (i 1).val) 8#32)) 0#32) = 1#1
/-- The step is the first of the summing steps. -/
abbrev starting (i : grid0.Coords) : Prop :=
  (Scalar.cmpi .ne (Scalar.extui (Scalar.cmpi .eq (BitVec.ofNat 32 (i 1).val) 0#32)) 0#32) = 1#1
/-- The step is not the first of the summing steps. -/
abbrev adding (i : grid0.Coords) : Prop :=
  (Scalar.cmpi .ne (Scalar.extui (Scalar.cmpi .ne (BitVec.ofNat 32 (i 1).val) 0#32)) 0#32) = 1#1
/-- The step is one of the writing steps. -/
abbrev writing (i : grid0.Coords) : Prop := k0_cond4 i = 1#1
/-- The step is the first of the writing steps, at which the row's scale and shift are computed. -/
abbrev turning (i : grid0.Coords) : Prop :=
  (Scalar.cmpi .ne (Scalar.extui (Scalar.cmpi .eq (BitVec.ofNat 32 (i 1).val) 8#32)) 0#32) = 1#1

/-- The five conditions at every grid point, by its step. -/
theorem conds : ∀ t : Fin cfg0.N,
    (summing (grid0.coords t) ↔ t.val % 16 < 8) ∧ (starting (grid0.coords t) ↔ t.val % 16 = 0)
    ∧ (adding (grid0.coords t) ↔ t.val % 16 ≠ 0) ∧ (writing (grid0.coords t) ↔ 8 ≤ t.val % 16)
    ∧ (turning (grid0.coords t) ↔ t.val % 16 = 8) :=
  (by decide +kernel : ∀ t : Fin grid0.N,
    (summing (grid0.coords t) ↔ t.val % 16 < 8) ∧ (starting (grid0.coords t) ↔ t.val % 16 = 0)
    ∧ (adding (grid0.coords t) ↔ t.val % 16 ≠ 0) ∧ (writing (grid0.coords t) ↔ 8 ≤ t.val % 16)
    ∧ (turning (grid0.coords t) ↔ t.val % 16 = 8))

/-- The result's window is written back exactly at the writing steps. -/
theorem flush_result : ∀ t : Fin cfg0.N, (cfg0.win 3).flush t = true ↔ 8 ≤ t.val % 16 :=
  (by decide +kernel : ∀ t : Fin grid0.N, win0_3.flush t = true ↔ 8 ≤ t.val % 16)

/-- The result's window is idle exactly at the summing steps. -/
theorem idle_result : ∀ t : Fin cfg0.N, cfg0.idle 3 (grid0.coords t) = true ↔ t.val % 16 < 8 :=
  (by decide +kernel : ∀ t : Fin grid0.N, idle0 3 (grid0.coords t) = true ↔ t.val % 16 < 8)

/-- The buffer that holds the block of `x` at a point. -/
abbrev xbuf (t : Fin cfg0.N) : Memref sig .tc .vmem S1x64x64x512 .f32 := win0_0.stage (cfg0.slots t 0)
/-- The buffer that holds the weights at a point. -/
abbrev wbuf (t : Fin cfg0.N) : Memref sig .tc .vmem S1x64x1x1 .f32 := win0_1.stage (cfg0.slots t 1)
/-- The buffer that holds the biases at a point. -/
abbrev bbuf (t : Fin cfg0.N) : Memref sig .tc .vmem S1x64x1x1 .f32 := win0_2.stage (cfg0.slots t 2)
/-- The buffer that holds the block of the result at a point. -/
abbrev obuf (t : Fin cfg0.N) : Memref sig .tc .vmem S1x64x64x512 .f32 := win0_3.stage (cfg0.slots t 3)
/-- The buffer of `x` is a whole buffer. -/
theorem xbuf_whole (t : Fin cfg0.N) : (xbuf t).IsWhole := hstage0_0 ((cfg0.slots t 0).cast nbuf0_0)
/-- The weights' buffer is a whole buffer. -/
theorem wbuf_whole (t : Fin cfg0.N) : (wbuf t).IsWhole := hstage0_1 ((cfg0.slots t 1).cast nbuf0_1)
/-- The biases' buffer is a whole buffer. -/
theorem bbuf_whole (t : Fin cfg0.N) : (bbuf t).IsWhole := hstage0_2 ((cfg0.slots t 2).cast nbuf0_2)
/-- The result's buffer is a whole buffer. -/
theorem obuf_whole (t : Fin cfg0.N) : (obuf t).IsWhole := hstage0_3 ((cfg0.slots t 3).cast nbuf0_3)
/-- The running sums of `x`, one per channel and lane. -/
abbrev s1buf : Memref sig .tc .vmem S1x64x1x512 .f32 := Memref.whole cc0_scratch0
/-- The running sums of squares, one per channel and lane. -/
abbrev s2buf : Memref sig .tc .vmem S1x64x1x512 .f32 := Memref.whole cc0_scratch1
/-- The running counts of valid pixels, one per lane. -/
abbrev cntbuf : Memref sig .tc .vmem S1x1x1x512 .f32 := Memref.whole cc0_scratch2
/-- The row's scale (part 0) and shift (part 1), one per channel. -/
abbrev scbuf : Memref sig .tc .vmem S2x64x1x1 .f32 := Memref.whole cc0_scratch3

/-- What the launch hands the region beside the windows: the four buffers of its own at some contents, and the
    generator's register. -/
theorem own_eq (c : Dev nD) :
    (Pipeline.ΦA spec0 c : sProp 𝕄)
      = iprop(iprop((∃ d, owns (c : Thread nD τ) s1buf fullShare d) ∗ (∃ d, owns (c : Thread nD τ) s2buf fullShare d)
          ∗ (∃ d, owns (c : Thread nD τ) cntbuf fullShare d) ∗ (∃ d, owns (c : Thread nD τ) scbuf fullShare d))
          ∗ (∃ r, prngReg c r)) := by
  unfold Pipeline.ΦA; rw [scopedRest0_eq]; simp only [owns_whole]; rfl

end Cert.KernelIdeal.Body

end
-- ==== Proof.RunSum.lean ====
/- The body at the summing steps: the first step stores the block's partial sums, each later one adds its own. -/
module

public import proofs.«01_k».proof.Proof.Branch
public import Idealize.ShloMosaic.Lib.VecWindow

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 1200000 in
/-- At a row's first step the body leaves the block's partial sums in the three running buffers, whatever they
    held, and everything else as it was. -/
theorem run_starting
    (c : Dev nD) (i : grid0.Coords) (a2 : Memref sig .tc .vmem S1x64x64x512 .f32) (h2 : a2.IsWhole)
    (a3 : Memref sig .tc .vmem S1x64x1x1 .f32) (h3 : a3.IsWhole) (a4 : Memref sig .tc .vmem S1x64x1x1 .f32) (h4 : a4.IsWhole)
    (a5 : Memref sig .tc .vmem S1x64x64x512 .f32) (h5 : a5.IsWhole) (a6 : Memref sig .tc .vmem S1x64x1x512 .f32) (h6 : a6.IsWhole)
    (a7 : Memref sig .tc .vmem S1x64x1x512 .f32) (h7 : a7.IsWhole) (a8 : Memref sig .tc .vmem S1x1x1x512 .f32) (h8 : a8.IsWhole)
    (a9 : Memref sig .tc .vmem S2x64x1x1 .f32) (h9 : a9.IsWhole)
    (hs : summing i) (hb : starting i) (ha : ¬adding i) (hw : ¬writing i)
    (x0 : Vec F S1x64x64x512 .f32) (x1 x2 : Vec F S1x64x1x1 .f32) (d5 : Vec F S1x64x64x512 .f32)
    (d6 d7 : Vec F S1x64x1x512 .f32) (d8 : Vec F S1x1x1x512 .f32) (d9 : Vec F S2x64x1x1 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare d5 ∗ owns (c : Thread nD τ) a6 fullShare d6 ∗ owns (c : Thread nD τ) a7 fullShare d7
        ∗ owns (c : Thread nD τ) a8 fullShare d8 ∗ owns (c : Thread nD τ) a9 fullShare d9
        ∗ (iprop(owns (c : Thread nD τ) a2 fullShare x0 ∗ owns (c : Thread nD τ) a3 fullShare x1 ∗ owns (c : Thread nD τ) a4 fullShare x2
            ∗ owns (c : Thread nD τ) a5 fullShare d5 ∗ owns (c : Thread nD τ) a6 fullShare (k0_pay5 x0)
            ∗ owns (c : Thread nD τ) a7 fullShare (k0_pay6 x0) ∗ owns (c : Thread nD τ) a8 fullShare (k0_pay7 x0)
            ∗ owns (c : Thread nD τ) a9 fullShare d9) -∗ K ⟨⟩))
      ⊢ wp frame (wpE (defs₀ (F := F)) Variants.none c none) E (cc0_masked_in_fused i a2 h2 a3 h3 a4 h4 a5 h5 a6 h6 a7 h7 a8 h8 a9 h9) K := by
  simp only [cc0_masked_in_fused_eq_skeleton]; unfold cc0_masked_in_fused_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  obtain rfl := h8.eq_unread hf8; obtain rfl := h9.eq_unread hf9
  sl_exec (disch := first | sl_exact hs | sl_exact hb | sl_exact ha | sl_exact hw | sl_exact ht)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact (View.read_writes_full _ _ _ _ _).trans (congrArg k0_pay5 ((View.readAt_full _ _ _).trans (h2.read_unread _)))
  isplitl [H7]
  · iexists _; isplitr; swap; · iexact H7
    ipureintro; exact (View.read_writes_full _ _ _ _ _).trans (congrArg k0_pay6 ((View.readAt_full _ _ _).trans (h2.read_unread _)))
  isplitl [H8]
  · iexists _; isplitr; swap; · iexact H8
    ipureintro; exact (View.read_writes_full _ _ _ _ _).trans (congrArg k0_pay7 ((View.readAt_full _ _ _).trans (h2.read_unread _)))
  iexists _; isplitr; · ipureintro; exact h9.read_unread _
  iexact H9

set_option maxHeartbeats 1200000 in
/-- At a row's second to eighth steps the body adds the block's partial sums to the three running buffers and leaves
    everything else as it was. -/
theorem run_adding
    (c : Dev nD) (i : grid0.Coords) (a2 : Memref sig .tc .vmem S1x64x64x512 .f32) (h2 : a2.IsWhole)
    (a3 : Memref sig .tc .vmem S1x64x1x1 .f32) (h3 : a3.IsWhole) (a4 : Memref sig .tc .vmem S1x64x1x1 .f32) (h4 : a4.IsWhole)
    (a5 : Memref sig .tc .vmem S1x64x64x512 .f32) (h5 : a5.IsWhole) (a6 : Memref sig .tc .vmem S1x64x1x512 .f32) (h6 : a6.IsWhole)
    (a7 : Memref sig .tc .vmem S1x64x1x512 .f32) (h7 : a7.IsWhole) (a8 : Memref sig .tc .vmem S1x1x1x512 .f32) (h8 : a8.IsWhole)
    (a9 : Memref sig .tc .vmem S2x64x1x1 .f32) (h9 : a9.IsWhole)
    (hs : summing i) (hb : ¬starting i) (ha : adding i) (hw : ¬writing i)
    (x0 : Vec F S1x64x64x512 .f32) (x1 x2 : Vec F S1x64x1x1 .f32) (d5 : Vec F S1x64x64x512 .f32)
    (d6 d7 : Vec F S1x64x1x512 .f32) (d8 : Vec F S1x1x1x512 .f32) (d9 : Vec F S2x64x1x1 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare d5 ∗ owns (c : Thread nD τ) a6 fullShare d6 ∗ owns (c : Thread nD τ) a7 fullShare d7
        ∗ owns (c : Thread nD τ) a8 fullShare d8 ∗ owns (c : Thread nD τ) a9 fullShare d9
        ∗ (iprop(owns (c : Thread nD τ) a2 fullShare x0 ∗ owns (c : Thread nD τ) a3 fullShare x1 ∗ owns (c : Thread nD τ) a4 fullShare x2
            ∗ owns (c : Thread nD τ) a5 fullShare d5 ∗ owns (c : Thread nD τ) a6 fullShare (k0_pay8 x0 d6)
            ∗ owns (c : Thread nD τ) a7 fullShare (k0_pay9 x0 d7) ∗ owns (c : Thread nD τ) a8 fullShare (k0_pay10 x0 d8)
            ∗ owns (c : Thread nD τ) a9 fullShare d9) -∗ K ⟨⟩))
      ⊢ wp frame (wpE (defs₀ (F := F)) Variants.none c none) E (cc0_masked_in_fused i a2 h2 a3 h3 a4 h4 a5 h5 a6 h6 a7 h7 a8 h8 a9 h9) K := by
  simp only [cc0_masked_in_fused_eq_skeleton]; unfold cc0_masked_in_fused_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  obtain rfl := h8.eq_unread hf8; obtain rfl := h9.eq_unread hf9
  sl_exec (disch := first | sl_exact hs | sl_exact hb | sl_exact ha | sl_exact hw | sl_exact ht)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact (View.read_writes_full _ _ _ _ _).trans (congrArg₂ k0_pay8 ((View.readAt_full _ _ _).trans (h2.read_unread _)) ((View.readAt_full _ _ _).trans (h6.read_unread _)))
  isplitl [H7]
  · iexists _; isplitr; swap; · iexact H7
    ipureintro; exact (View.read_writes_full _ _ _ _ _).trans (congrArg₂ k0_pay9 ((View.readAt_full _ _ _).trans (h2.read_unread _)) ((View.readAt_full _ _ _).trans (h7.read_unread _)))
  isplitl [H8]
  · iexists _; isplitr; swap; · iexact H8
    ipureintro; exact (View.read_writes_full _ _ _ _ _).trans (congrArg₂ k0_pay10 ((View.readAt_full _ _ _).trans (h2.read_unread _)) ((View.readAt_full _ _ _).trans (h8.read_unread _)))
  iexists _; isplitr; · ipureintro; exact h9.read_unread _
  iexact H9

end Cert.KernelIdeal.Body

end
-- ==== Proof.RunWrite.lean ====
/- The body at the writing steps: the first computes the row's scale and shift, and every one scales and shifts its block. -/
module

public import proofs.«01_k».proof.Proof.RunSum
public import Idealize.ShloMosaic.Lib.VecWindow

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The scale, as the body loads it: part 0 of the two. -/
abbrev scaleOf (z : Vec F S2x64x1x1 .f32) : Vec F S1x64x1x1 .f32 :=
  VecWindow.window z ![0, 0, 0, 0] S1x64x1x1.size inb_S2x64x1x1_S1x64x1x1_0_0_0_0
/-- The shift, as the body loads it: part 1 of the two. -/
abbrev shiftOf (z : Vec F S2x64x1x1 .f32) : Vec F S1x64x1x1 .f32 :=
  VecWindow.window z ![1, 0, 0, 0] S1x64x1x1.size inb_S2x64x1x1_S1x64x1x1_1_0_0_0

/-- The two parts written, the shift last: the scale part reads as the scale. -/
theorem scaleOf_written {κ : Kind} {sp : Space} (v : View sig κ sp S2x64x1x1 .f32) (f : v.ty.Contents (Elt F)) (a b : Vec F S1x64x1x1 .f32) :
    scaleOf (v.read (Elt F) (v.writes (Elt F) f
      [⟨Rect.unit (s := S2x64x1x1) ![1, 0, 0, 0] S1x64x1x1.size inb_S2x64x1x1_S1x64x1x1_1_0_0_0, b⟩,
       ⟨Rect.unit (s := S2x64x1x1) ![0, 0, 0, 0] S1x64x1x1.size inb_S2x64x1x1_S1x64x1x1_0_0_0_0, a⟩])) = a := by
  funext y
  refine (View.read_writes_cons_unit_of_not_mem v f _ b _ _ rfl 0 (Or.inl ?_)).trans
    (View.read_writes_cons_unit_of_mem v f _ a [] _ y rfl fun k => congrArg (_ + ·) (Nat.one_mul (y k).val))
  show 0 + 1 * (y 0).val < 1
  have : (y 0).val < 1 := (y 0).isLt
  omega

/-- The two parts written, the shift last: the shift part reads as the shift. -/
theorem shiftOf_written {κ : Kind} {sp : Space} (v : View sig κ sp S2x64x1x1 .f32) (f : v.ty.Contents (Elt F)) (a b : Vec F S1x64x1x1 .f32) :
    shiftOf (v.read (Elt F) (v.writes (Elt F) f
      [⟨Rect.unit (s := S2x64x1x1) ![1, 0, 0, 0] S1x64x1x1.size inb_S2x64x1x1_S1x64x1x1_1_0_0_0, b⟩,
       ⟨Rect.unit (s := S2x64x1x1) ![0, 0, 0, 0] S1x64x1x1.size inb_S2x64x1x1_S1x64x1x1_0_0_0_0, a⟩])) = b := by
  funext y
  exact View.read_writes_cons_unit_of_mem v f _ b _ _ y rfl fun k => congrArg (_ + ·) (Nat.one_mul (y k).val)

/-- The block a writing step stores depends on the values of what it loads alone. -/
theorem stored_congr {v0 w0 : Vec F S1x64x64x512 .f32} {v1 w1 v2 w2 v3 w3 v4 w4 : Vec F S1x64x1x1 .f32} (e0 : v0 = w0) (e1 : v1 = w1)
    (e2 : v2 = w2) (e3 : v3 = w3) (e4 : v4 = w4) : k0_pay14 v0 v1 v2 v3 v4 = k0_pay14 w0 w1 w2 w3 w4 := by
  subst e0 e1 e2 e3 e4; rfl

/-- So do the scale … -/
theorem scale_congr {w w' : Vec F S1x64x1x1 .f32} {s s' q q' : Vec F S1x64x1x512 .f32} {n n' : Vec F S1x1x1x512 .f32}
    (e1 : w = w') (e2 : s = s') (e3 : q = q') (e4 : n = n') :
    k0_pay20 (k0_pay11 w) s q n = k0_pay20 (k0_pay11 w') s' q' n' := by
  subst e1 e2 e3 e4; rfl

/-- … and the shift. -/
theorem shift_congr {w w' b b' : Vec F S1x64x1x1 .f32} {s s' q q' : Vec F S1x64x1x512 .f32} {n n' : Vec F S1x1x1x512 .f32}
    (e1 : w = w') (e0 : b = b') (e2 : s = s') (e3 : q = q') (e4 : n = n') :
    k0_pay13 (k0_pay21 (k0_pay11 w) (k0_pay12 b) s q n) = k0_pay13 (k0_pay21 (k0_pay11 w') (k0_pay12 b') s' q' n') := by
  subst e0 e1 e2 e3 e4; rfl

set_option maxHeartbeats 1200000 in
/-- At a row's first writing step the body computes the scale and the shift from the running sums, keeps them, and
    scales and shifts the block by them. -/
theorem run_turning
    (c : Dev nD) (i : grid0.Coords) (a2 : Memref sig .tc .vmem S1x64x64x512 .f32) (h2 : a2.IsWhole)
    (a3 : Memref sig .tc .vmem S1x64x1x1 .f32) (h3 : a3.IsWhole) (a4 : Memref sig .tc .vmem S1x64x1x1 .f32) (h4 : a4.IsWhole)
    (a5 : Memref sig .tc .vmem S1x64x64x512 .f32) (h5 : a5.IsWhole) (a6 : Memref sig .tc .vmem S1x64x1x512 .f32) (h6 : a6.IsWhole)
    (a7 : Memref sig .tc .vmem S1x64x1x512 .f32) (h7 : a7.IsWhole) (a8 : Memref sig .tc .vmem S1x1x1x512 .f32) (h8 : a8.IsWhole)
    (a9 : Memref sig .tc .vmem S2x64x1x1 .f32) (h9 : a9.IsWhole)
    (hs : ¬summing i) (hw : writing i) (ht : turning i)
    (x0 : Vec F S1x64x64x512 .f32) (x1 x2 : Vec F S1x64x1x1 .f32) (d5 : Vec F S1x64x64x512 .f32)
    (d6 d7 : Vec F S1x64x1x512 .f32) (d8 : Vec F S1x1x1x512 .f32) (d9 : Vec F S2x64x1x1 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare d5 ∗ owns (c : Thread nD τ) a6 fullShare d6 ∗ owns (c : Thread nD τ) a7 fullShare d7
        ∗ owns (c : Thread nD τ) a8 fullShare d8 ∗ owns (c : Thread nD τ) a9 fullShare d9
        ∗ (iprop(owns (c : Thread nD τ) a2 fullShare x0 ∗ owns (c : Thread nD τ) a3 fullShare x1 ∗ owns (c : Thread nD τ) a4 fullShare x2
            ∗ owns (c : Thread nD τ) a5 fullShare (k0_pay14 x0 x1 x2 (k0_pay20 (k0_pay11 x1) d6 d7 d8) (k0_pay13 (k0_pay21 (k0_pay11 x1) (k0_pay12 x2) d6 d7 d8))) ∗ owns (c : Thread nD τ) a6 fullShare d6
            ∗ owns (c : Thread nD τ) a7 fullShare d7 ∗ owns (c : Thread nD τ) a8 fullShare d8
            ∗ (∃ d, ⌜scaleOf d = k0_pay20 (k0_pay11 x1) d6 d7 d8 ∧ shiftOf d = k0_pay13 (k0_pay21 (k0_pay11 x1) (k0_pay12 x2) d6 d7 d8)⌝
                ∗ owns (c : Thread nD τ) a9 fullShare d)) -∗ K ⟨⟩))
      ⊢ wp frame (wpE (defs₀ (F := F)) Variants.none c none) E (cc0_masked_in_fused i a2 h2 a3 h3 a4 h4 a5 h5 a6 h6 a7 h7 a8 h8 a9 h9) K := by
  simp only [cc0_masked_in_fused_eq_skeleton]; unfold cc0_masked_in_fused_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  obtain rfl := h8.eq_unread hf8; obtain rfl := h9.eq_unread hf9
  sl_exec (disch := first | sl_exact hs | sl_exact hb | sl_exact ha | sl_exact hw | sl_exact ht)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact (View.read_writes_full _ _ _ _ _).trans (stored_congr ((View.readAt_full _ _ _).trans (h2.read_unread _)) ((View.readAt_full _ _ _).trans (h3.read_unread _)) ((View.readAt_full _ _ _).trans (h4.read_unread _))
      ((View.readAt_unit _ _ _ rfl _).trans ((scaleOf_written _ _ _ _).trans (scale_congr ((View.readAt_full _ _ _).trans (h3.read_unread _)) ((View.readAt_full _ _ _).trans (h6.read_unread _)) ((View.readAt_full _ _ _).trans (h7.read_unread _)) ((View.readAt_full _ _ _).trans (h8.read_unread _)))))
      ((View.readAt_unit _ _ _ rfl _).trans ((shiftOf_written _ _ _ _).trans (shift_congr ((View.readAt_full _ _ _).trans (h3.read_unread _)) ((View.readAt_full _ _ _).trans (h4.read_unread _)) ((View.readAt_full _ _ _).trans (h6.read_unread _)) ((View.readAt_full _ _ _).trans (h7.read_unread _)) ((View.readAt_full _ _ _).trans (h8.read_unread _))))))
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro; exact h8.read_unread _
  iexists _; isplitr; swap
  · iexists _; isplitr; swap; · iexact H9
    ipureintro; rfl
  ipureintro
  exact ⟨(scaleOf_written _ _ _ _).trans (scale_congr ((View.readAt_full _ _ _).trans (h3.read_unread _)) ((View.readAt_full _ _ _).trans (h6.read_unread _)) ((View.readAt_full _ _ _).trans (h7.read_unread _)) ((View.readAt_full _ _ _).trans (h8.read_unread _))),
    (shiftOf_written _ _ _ _).trans (shift_congr ((View.readAt_full _ _ _).trans (h3.read_unread _)) ((View.readAt_full _ _ _).trans (h4.read_unread _)) ((View.readAt_full _ _ _).trans (h6.read_unread _)) ((View.readAt_full _ _ _).trans (h7.read_unread _)) ((View.readAt_full _ _ _).trans (h8.read_unread _)))⟩

set_option maxHeartbeats 1200000 in
/-- At a row's later writing steps the body scales and shifts the block by the kept scale and shift. -/
theorem run_writing
    (c : Dev nD) (i : grid0.Coords) (a2 : Memref sig .tc .vmem S1x64x64x512 .f32) (h2 : a2.IsWhole)
    (a3 : Memref sig .tc .vmem S1x64x1x1 .f32) (h3 : a3.IsWhole) (a4 : Memref sig .tc .vmem S1x64x1x1 .f32) (h4 : a4.IsWhole)
    (a5 : Memref sig .tc .vmem S1x64x64x512 .f32) (h5 : a5.IsWhole) (a6 : Memref sig .tc .vmem S1x64x1x512 .f32) (h6 : a6.IsWhole)
    (a7 : Memref sig .tc .vmem S1x64x1x512 .f32) (h7 : a7.IsWhole) (a8 : Memref sig .tc .vmem S1x1x1x512 .f32) (h8 : a8.IsWhole)
    (a9 : Memref sig .tc .vmem S2x64x1x1 .f32) (h9 : a9.IsWhole)
    (hs : ¬summing i) (hw : writing i) (ht : ¬turning i)
    (x0 : Vec F S1x64x64x512 .f32) (x1 x2 : Vec F S1x64x1x1 .f32) (d5 : Vec F S1x64x64x512 .f32)
    (d6 d7 : Vec F S1x64x1x512 .f32) (d8 : Vec F S1x1x1x512 .f32) (d9 : Vec F S2x64x1x1 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare d5 ∗ owns (c : Thread nD τ) a6 fullShare d6 ∗ owns (c : Thread nD τ) a7 fullShare d7
        ∗ owns (c : Thread nD τ) a8 fullShare d8 ∗ owns (c : Thread nD τ) a9 fullShare d9
        ∗ (iprop(owns (c : Thread nD τ) a2 fullShare x0 ∗ owns (c : Thread nD τ) a3 fullShare x1 ∗ owns (c : Thread nD τ) a4 fullShare x2
            ∗ owns (c : Thread nD τ) a5 fullShare (k0_pay14 x0 x1 x2 (scaleOf d9) (shiftOf d9)) ∗ owns (c : Thread nD τ) a6 fullShare d6
            ∗ owns (c : Thread nD τ) a7 fullShare d7 ∗ owns (c : Thread nD τ) a8 fullShare d8
            ∗ owns (c : Thread nD τ) a9 fullShare d9) -∗ K ⟨⟩))
      ⊢ wp frame (wpE (defs₀ (F := F)) Variants.none c none) E (cc0_masked_in_fused i a2 h2 a3 h3 a4 h4 a5 h5 a6 h6 a7 h7 a8 h8 a9 h9) K := by
  simp only [cc0_masked_in_fused_eq_skeleton]; unfold cc0_masked_in_fused_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h2.eq_unread hf2; obtain rfl := h3.eq_unread hf3; obtain rfl := h4.eq_unread hf4
  obtain rfl := h5.eq_unread hf5; obtain rfl := h6.eq_unread hf6; obtain rfl := h7.eq_unread hf7
  obtain rfl := h8.eq_unread hf8; obtain rfl := h9.eq_unread hf9
  sl_exec (disch := first | sl_exact hs | sl_exact hb | sl_exact ha | sl_exact hw | sl_exact ht)
  sl_step
  iapply Hk
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact (View.read_writes_full _ _ _ _ _).trans (stored_congr ((View.readAt_full _ _ _).trans (h2.read_unread _)) ((View.readAt_full _ _ _).trans (h3.read_unread _)) ((View.readAt_full _ _ _).trans (h4.read_unread _)) ((View.readAt_unit _ _ _ rfl _).trans (congrArg (fun z => VecWindow.window z _ _ _) (h9.read_unread _))) ((View.readAt_unit _ _ _ rfl _).trans (congrArg (fun z => VecWindow.window z _ _ _) (h9.read_unread _))))
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro; exact h8.read_unread _
  iexists _; isplitr; · ipureintro; exact h9.read_unread _
  iexact H9

end Cert.KernelIdeal.Body

end
-- ==== Proof.Carried.lean ====
/- What the kernel body carries from one grid point to the next: the running sums of a row, then its scale and shift. -/
module

public import proofs.«01_k».proof.Proof.RunWrite
public import Idealize.ShloMosaic.Lib.VecWindow

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- The three running buffers after point `n`: sums, sums of squares, counts. A row's first step starts them, its
    next seven add to them, its last eight leave them. -/
def sums (c : Dev nD) : (n : ℕ) → n < cfg0.N → Vec F S1x64x1x512 .f32 × Vec F S1x64x1x512 .f32 × Vec F S1x1x1x512 .f32
  | 0, h => (k0_pay5 (iblk m c 0 ⟨0, h⟩), k0_pay6 (iblk m c 0 ⟨0, h⟩), k0_pay7 (iblk m c 0 ⟨0, h⟩))
  | n + 1, h =>
    if (n + 1) % 16 = 0 then (k0_pay5 (iblk m c 0 ⟨n + 1, h⟩), k0_pay6 (iblk m c 0 ⟨n + 1, h⟩), k0_pay7 (iblk m c 0 ⟨n + 1, h⟩))
    else if (n + 1) % 16 < 8 then
      (k0_pay8 (iblk m c 0 ⟨n + 1, h⟩) (sums c n (Nat.lt_of_succ_lt h)).1, k0_pay9 (iblk m c 0 ⟨n + 1, h⟩) (sums c n (Nat.lt_of_succ_lt h)).2.1,
        k0_pay10 (iblk m c 0 ⟨n + 1, h⟩) (sums c n (Nat.lt_of_succ_lt h)).2.2)
    else sums c n (Nat.lt_of_succ_lt h)

/-- A row's first step starts the running sums with its block's. -/
theorem sums_starting (c : Dev nD) : (t : Fin cfg0.N) → t.val % 16 = 0 →
    sums m c t.val t.isLt = (k0_pay5 (iblk m c 0 t), k0_pay6 (iblk m c 0 t), k0_pay7 (iblk m c 0 t))
  | ⟨0, _⟩, _ => by rw [sums]
  | ⟨n + 1, _⟩, h => by rw [sums, if_pos h]

/-- Each of the next seven adds its block's. -/
theorem sums_adding (c : Dev nD) : (t : Fin cfg0.N) → t.val % 16 ≠ 0 → t.val % 16 < 8 →
    sums m c t.val t.isLt = (k0_pay8 (iblk m c 0 t) (sums m c (t.val - 1) (by omega)).1,
      k0_pay9 (iblk m c 0 t) (sums m c (t.val - 1) (by omega)).2.1, k0_pay10 (iblk m c 0 t) (sums m c (t.val - 1) (by omega)).2.2)
  | ⟨0, _⟩, h, _ => absurd rfl h
  | ⟨n + 1, _⟩, h, h' => by rw [sums, if_neg h, if_pos h']; rfl

/-- The writing steps leave them. -/
theorem sums_writing (c : Dev nD) : (t : Fin cfg0.N) → 8 ≤ t.val % 16 →
    sums m c t.val t.isLt = sums m c (t.val - 1) (by omega)
  | ⟨0, _⟩, h => absurd (show 8 ≤ 0 % 16 from h) (by decide)
  | ⟨n + 1, _⟩, h => by
    have h' : 8 ≤ (n + 1) % 16 := h
    rw [sums, if_neg (by omega), if_neg (by omega)]; rfl

/-- The weights' block is the same at every point. -/
theorem wblk_const (c : Dev nD) (t t' : Fin cfg0.N) : iblk m c 1 t = iblk m c 1 t' := rfl
/-- The biases' block is the same at every point. -/
theorem bblk_const (c : Dev nD) (t t' : Fin cfg0.N) : iblk m c 2 t = iblk m c 2 t' := rfl

/-- The scale computed from the running sums after point `t`. -/
def scale (c : Dev nD) (t : Fin cfg0.N) : Vec F S1x64x1x1 .f32 :=
  k0_pay20 (k0_pay11 (iblk m c 1 t)) (sums m c t.val t.isLt).1 (sums m c t.val t.isLt).2.1 (sums m c t.val t.isLt).2.2
/-- The shift computed from the running sums after point `t`. -/
def shift (c : Dev nD) (t : Fin cfg0.N) : Vec F S1x64x1x1 .f32 :=
  k0_pay13 (k0_pay21 (k0_pay11 (iblk m c 1 t)) (k0_pay12 (iblk m c 2 t)) (sums m c t.val t.isLt).1 (sums m c t.val t.isLt).2.1 (sums m c t.val t.isLt).2.2)

/-- Through the writing steps the scale stays. -/
theorem scale_keep (c : Dev nD) (t : Fin cfg0.N) (h : 8 ≤ t.val % 16) : scale m c t = scale m c ⟨t.val - 1, by omega⟩ := by
  unfold scale; rw [sums_writing m c t h, wblk_const m c t ⟨t.val - 1, by omega⟩]
/-- Through the writing steps the shift stays. -/
theorem shift_keep (c : Dev nD) (t : Fin cfg0.N) (h : 8 ≤ t.val % 16) : shift m c t = shift m c ⟨t.val - 1, by omega⟩ := by
  unfold shift; rw [sums_writing m c t h, wblk_const m c t ⟨t.val - 1, by omega⟩, bblk_const m c t ⟨t.val - 1, by omega⟩]

/-- The block the body stores at a writing step. -/
def result (c : Dev nD) (t : Fin cfg0.N) : Vec F S1x64x64x512 .f32 :=
  k0_pay14 (iblk m c 0 t) (iblk m c 1 t) (iblk m c 2 t) (scale m c t) (shift m c t)

/-- What the body's own buffers hold before point `n`: anything at the launch; after a point, the running sums, and
    after a writing step the row's scale and shift. -/
def carried (c : Dev nD) : (n : ℕ) → n ≤ cfg0.N → sProp 𝕄
  | 0, _ => Pipeline.ΦA spec0 c
  | n + 1, h => iprop(iprop(owns (c : Thread nD τ) s1buf fullShare (sums m c n h).1 ∗ owns (c : Thread nD τ) s2buf fullShare (sums m c n h).2.1
      ∗ owns (c : Thread nD τ) cntbuf fullShare (sums m c n h).2.2
      ∗ (∃ d, ⌜8 ≤ n % 16 → scaleOf d = scale m c ⟨n, h⟩ ∧ shiftOf d = shift m c ⟨n, h⟩⌝ ∗ owns (c : Thread nD τ) scbuf fullShare d))
      ∗ (∃ r, prngReg c r))

/-- Into the first point nothing is known of the scratch buffers. -/
theorem carried_zero (c : Dev nD) (n : ℕ) (h : n ≤ cfg0.N) (hz : n = 0) : carried m c n h = Pipeline.ΦA spec0 c := by
  subst hz; rfl

/-- Out of a point its own running sums are carried. -/
theorem carried_succ (c : Dev nD) (t : Fin cfg0.N) :
    carried m c (t.val + 1) t.isLt = iprop(iprop(owns (c : Thread nD τ) s1buf fullShare (sums m c t.val t.isLt).1
      ∗ owns (c : Thread nD τ) s2buf fullShare (sums m c t.val t.isLt).2.1 ∗ owns (c : Thread nD τ) cntbuf fullShare (sums m c t.val t.isLt).2.2
      ∗ (∃ d, ⌜8 ≤ t.val % 16 → scaleOf d = scale m c t ∧ shiftOf d = shift m c t⌝ ∗ owns (c : Thread nD τ) scbuf fullShare d))
      ∗ (∃ r, prngReg c r)) := rfl

/-- Into a later point the sums of the point before are carried. -/
theorem carried_pos (c : Dev nD) (t : Fin cfg0.N) (hz : t.val ≠ 0) :
    carried m c t.val (Nat.le_of_lt t.isLt) = iprop(iprop(owns (c : Thread nD τ) s1buf fullShare (sums m c (t.val - 1) (by omega)).1
      ∗ owns (c : Thread nD τ) s2buf fullShare (sums m c (t.val - 1) (by omega)).2.1
      ∗ owns (c : Thread nD τ) cntbuf fullShare (sums m c (t.val - 1) (by omega)).2.2
      ∗ (∃ d, ⌜8 ≤ (t.val - 1) % 16 → scaleOf d = scale m c ⟨t.val - 1, by omega⟩ ∧ shiftOf d = shift m c ⟨t.val - 1, by omega⟩⌝
          ∗ owns (c : Thread nD τ) scbuf fullShare d))
      ∗ (∃ r, prngReg c r)) := by
  obtain ⟨n, hn⟩ := t
  cases n with
  | zero => exact absurd rfl hz
  | succ n => rfl

/-- Before any point the running buffers and the kept pair are held at some contents, the kept pair, past a writing
    step, at the scale and the shift. -/
theorem carried_some (c : Dev nD) (t : Fin cfg0.N) :
    carried m c t.val (Nat.le_of_lt t.isLt) ⊢ iprop(iprop((∃ d, owns (c : Thread nD τ) s1buf fullShare d)
      ∗ (∃ d, owns (c : Thread nD τ) s2buf fullShare d) ∗ (∃ d, owns (c : Thread nD τ) cntbuf fullShare d)
      ∗ (∃ d, owns (c : Thread nD τ) scbuf fullShare d)) ∗ (∃ r, prngReg c r)) := by
  by_cases hz : t.val = 0
  · rw [carried_zero m c _ _ hz, own_eq]
  · rw [carried_pos m c t hz]
    iintro ⟨⟨H1, H2, H3, ⟨%d, -, H4⟩⟩, Hg⟩
    isplitl [H1 H2 H3 H4]
    · isplitl [H1]; · iexists _; iexact H1
      isplitl [H2]; · iexists _; iexact H2
      isplitl [H3]; · iexists _; iexact H3
      iexists _; iexact H4
    iexact Hg

end Cert.KernelIdeal.Body

end
-- ==== Proof.Launch.lean ====
/- The kernel body meets its triple at every grid point, so the launch runs: what every array of the pipeline holds at the end. -/
module

public import proofs.«01_k».proof.Proof.Carried
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- The region's proof data: the arrays as the region finds them; after a point the inputs' buffers at their blocks and
    the result's at the block stored there; the body's own buffers as carried; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => result m c t
  Φ t := carried m c t.val (Nat.le_of_lt_succ t.isLt)
  q _ := fullShare
  owed _ := 0

/-- The arrays start at what the region is entered with. -/
theorem A_eq (c : Dev nD) (w : Fin cfg0.W) : (dats m 0 c).A w = V m c (Pipeline.arrRef spec0 w) := by dsimp only [dats]

/-- What is carried into a point. -/
theorem inv_castSucc (c : Dev nD) (t : Fin cfg0.N) : (dats m 0 c).Φ t.castSucc = carried m c t.val (Nat.le_of_lt t.isLt) := by
  dsimp only [dats]; exact Pipeline.Dat.Φ_castSucc (carried m c) t
/-- What is carried out of a point. -/
theorem inv_succ (c : Dev nD) (t : Fin cfg0.N) : (dats m 0 c).Φ t.succ = carried m c (t.val + 1) t.isLt := rfl
/-- Nothing is owed before a point or after it. -/
theorem owes_succ (c : Dev nD) (t : Fin cfg0.N) : (dats m 0 c).owesAt () t.succ = (dats m 0 c).owesAt () t.castSucc := rfl

/-- A point leaves its block of `x` as staged. -/
theorem after_x (c : Dev nD) (t : Fin cfg0.N) : (dats m 0 c).after 0 t = iblk m c 0 t := by dsimp only [dats]
/-- A point leaves the weights as staged. -/
theorem after_w (c : Dev nD) (t : Fin cfg0.N) : (dats m 0 c).after 1 t = iblk m c 1 t := by dsimp only [dats]
/-- A point leaves the biases as staged. -/
theorem after_b (c : Dev nD) (t : Fin cfg0.N) : (dats m 0 c).after 2 t = iblk m c 2 t := by dsimp only [dats]
/-- A point leaves its block of the result. -/
theorem after_o (c : Dev nD) (t : Fin cfg0.N) : (dats m 0 c).after 3 t = result m c t := by dsimp only [dats]

/-- Before a point each input's buffer holds its block. -/
theorem before_x (c : Dev nD) (t : Fin cfg0.N) (d) : (dats m 0 c).before 0 t d = iblk m c 0 t :=
  before0_0_of m (dats m 0 c) (A_eq m c 0) (after_x m c) t d
/-- A point finds the weights staged. -/
theorem before_w (c : Dev nD) (t : Fin cfg0.N) (d) : (dats m 0 c).before 1 t d = iblk m c 1 t :=
  before0_1_of m (dats m 0 c) (A_eq m c 1) (after_w m c) t d
/-- A point finds the biases staged. -/
theorem before_b (c : Dev nD) (t : Fin cfg0.N) (d) : (dats m 0 c).before 2 t d = iblk m c 2 t :=
  before0_2_of m (dats m 0 c) (A_eq m c 2) (after_b m c) t d

/-- What the body starts a point with. -/
def bodyPre (c : Dev nD) (t : Fin cfg0.N) : sProp 𝕄 :=
  iprop((dats m 0 c).Φ t.castSucc ∗ (dats m 0 c).owesAt () t.castSucc
    ∗ (∃ d, owns (c : Thread nD τ) (xbuf t) fullShare ((dats m 0 c).before 0 t d))
    ∗ (∃ d, owns (c : Thread nD τ) (wbuf t) fullShare ((dats m 0 c).before 1 t d))
    ∗ (∃ d, owns (c : Thread nD τ) (bbuf t) fullShare ((dats m 0 c).before 2 t d))
    ∗ (∃ d, owns (c : Thread nD τ) (obuf t) fullShare ((dats m 0 c).before 3 t d)))

/-- What it ends the point with. -/
def bodyPost (c : Dev nD) (t : Fin cfg0.N) : sProp 𝕄 :=
  iprop((dats m 0 c).Φ t.succ ∗ (dats m 0 c).owesAt () t.succ
    ∗ owns (c : Thread nD τ) (xbuf t) fullShare (iblk m c 0 t)
    ∗ owns (c : Thread nD τ) (wbuf t) fullShare (iblk m c 1 t)
    ∗ owns (c : Thread nD τ) (bbuf t) fullShare (iblk m c 2 t)
    ∗ (dats m 0 c).leavesExact 3 t)

/-- At a summing step the result's buffer is handed back as found. -/
theorem leaves_summing (c : Dev nD) (t : Fin cfg0.N) (h : t.val % 16 < 8) :
    (dats m 0 c).leavesExact 3 t = iprop(∃ d, owns (c : Thread nD τ) (obuf t) fullShare ((dats m 0 c).before 3 t d)) :=
  (dats m 0 c).leavesExact_idle 3 t ((idle_result t).mpr h)
    (Bool.eq_false_iff.mpr fun hf => absurd ((flush_result t).mp hf) (by omega))

/-- At a writing step it holds the block stored. -/
theorem leaves_writing (c : Dev nD) (t : Fin cfg0.N) (h : 8 ≤ t.val % 16) :
    (dats m 0 c).leavesExact 3 t = owns (c : Thread nD τ) (obuf t) fullShare (result m c t) := by
  unfold Dat.leavesExact
  rw [show cfg0.idle 3 (cfg0.grid.coords t) = false from Bool.eq_false_iff.mpr fun hi => absurd ((idle_result t).mp hi) (by omega),
    after_o]

/-- The scale at a writing step, from the sums its predecessor left. -/
theorem scale_now (c : Dev nD) (t : Fin cfg0.N) (h : 8 ≤ t.val % 16) :
    scale m c t = k0_pay20 (k0_pay11 (iblk m c 1 t)) (sums m c (t.val - 1) (by omega)).1 (sums m c (t.val - 1) (by omega)).2.1 (sums m c (t.val - 1) (by omega)).2.2 := by
  unfold scale; rw [sums_writing m c t h]
/-- The shift at a writing step, from the same sums. -/
theorem shift_now (c : Dev nD) (t : Fin cfg0.N) (h : 8 ≤ t.val % 16) :
    shift m c t = k0_pay13 (k0_pay21 (k0_pay11 (iblk m c 1 t)) (k0_pay12 (iblk m c 2 t)) (sums m c (t.val - 1) (by omega)).1 (sums m c (t.val - 1) (by omega)).2.1 (sums m c (t.val - 1) (by omega)).2.2) := by
  unfold shift; rw [sums_writing m c t h]
/-- The block stored at the first writing step. -/
theorem result_turning (c : Dev nD) (t : Fin cfg0.N) (h : 8 ≤ t.val % 16) :
    result m c t = k0_pay14 (iblk m c 0 t) (iblk m c 1 t) (iblk m c 2 t)
      (k0_pay20 (k0_pay11 (iblk m c 1 t)) (sums m c (t.val - 1) (by omega)).1 (sums m c (t.val - 1) (by omega)).2.1 (sums m c (t.val - 1) (by omega)).2.2)
      (k0_pay13 (k0_pay21 (k0_pay11 (iblk m c 1 t)) (k0_pay12 (iblk m c 2 t)) (sums m c (t.val - 1) (by omega)).1 (sums m c (t.val - 1) (by omega)).2.1 (sums m c (t.val - 1) (by omega)).2.2)) := by
  unfold result; rw [scale_now m c t h, shift_now m c t h]
/-- The block stored at a later one. -/
theorem result_writing (c : Dev nD) (t : Fin cfg0.N) (h : 8 ≤ t.val % 16) (d : Vec F S2x64x1x1 .f32)
    (hd : scaleOf d = scale m c ⟨t.val - 1, by omega⟩ ∧ shiftOf d = shift m c ⟨t.val - 1, by omega⟩) :
    result m c t = k0_pay14 (iblk m c 0 t) (iblk m c 1 t) (iblk m c 2 t) (scaleOf d) (shiftOf d) := by
  unfold result; rw [scale_keep m c t h, shift_keep m c t h, hd.1, hd.2]

/-- A row's first step. -/
theorem body_starting (c : Dev nD) (t : Fin cfg0.N) (hlt : t.val % 16 < 8) (hz : t.val % 16 = 0) :
    bodyPre m c t ⊢ wp frame (wpE (defs₀ (F := F)) Variants.none c none) Set.univ (bodyAt0 t) (fun _ => bodyPost m c t) := by
  obtain ⟨hs, hb, ha, hw, ht⟩ := conds t
  unfold bodyPre bodyPost bodyAt0
  simp only [before_x, before_w, before_b]
  rw [leaves_summing m c t hlt, inv_succ, inv_castSucc, carried_succ, owes_succ]
  refine (sep_mono (carried_some m c t) .rfl).trans ?_
  rw [sums_starting m c t hz]
  iintro ⟨⟨⟨⟨%d6, H6⟩, ⟨%d7, H7⟩, ⟨%d8, H8⟩, ⟨%d9, H9⟩⟩, Hg⟩, Ho, ⟨%_, H0⟩, ⟨%_, H1⟩, ⟨%_, H2⟩, ⟨%e, H5⟩⟩
  iapply (run_starting c (grid0.coords t) (xbuf t) (xbuf_whole t) (wbuf t) (wbuf_whole t) (bbuf t) (bbuf_whole t) (obuf t) (obuf_whole t)
    s1buf (Memref.isWhole_whole _) s2buf (Memref.isWhole_whole _) cntbuf (Memref.isWhole_whole _) scbuf (Memref.isWhole_whole _)
    (hs.mpr hlt) (hb.mpr hz) (fun h => ha.mp h hz) (fun h => absurd (hw.mp h) (by omega)) (iblk m c 0 t) (iblk m c 1 t) (iblk m c 2 t) ((dats m 0 c).before 3 t e) d6 d7 d8 d9 Set.univ (fun _ => _))
  isplitl [H0]; · iexact H0
  isplitl [H1]; · iexact H1
  isplitl [H2]; · iexact H2
  isplitl [H5]; · iexact H5
  isplitl [H6]; · iexact H6
  isplitl [H7]; · iexact H7
  isplitl [H8]; · iexact H8
  isplitl [H9]; · iexact H9
  iintro ⟨H0, H1, H2, H5, H6, H7, H8, H9⟩
  isplitl [H6 H7 H8 H9 Hg]
  · isplitl [H6 H7 H8 H9]
    · isplitl [H6]; · iexact H6
      isplitl [H7]; · iexact H7
      isplitl [H8]; · iexact H8
      iexists _; isplitr; swap; · iexact H9
      ipureintro; exact fun h => absurd h (by omega)
    iexact Hg
  isplitl [Ho]; · iexact Ho
  isplitl [H0]; · iexact H0
  isplitl [H1]; · iexact H1
  isplitl [H2]; · iexact H2
  iexists _; iexact H5

/-- A row's next seven steps. -/
theorem body_adding (c : Dev nD) (t : Fin cfg0.N) (hlt : t.val % 16 < 8) (hz : t.val % 16 ≠ 0) :
    bodyPre m c t ⊢ wp frame (wpE (defs₀ (F := F)) Variants.none c none) Set.univ (bodyAt0 t) (fun _ => bodyPost m c t) := by
  obtain ⟨hs, hb, ha, hw, ht⟩ := conds t
  unfold bodyPre bodyPost bodyAt0
  simp only [before_x, before_w, before_b]
  rw [leaves_summing m c t hlt, inv_succ, inv_castSucc, carried_succ, owes_succ]
  rw [carried_pos m c t (by omega), sums_adding m c t hz hlt]
  iintro ⟨⟨⟨H6, H7, H8, ⟨%d9, %hk, H9⟩⟩, Hg⟩, Ho, ⟨%_, H0⟩, ⟨%_, H1⟩, ⟨%_, H2⟩, ⟨%e, H5⟩⟩
  iapply (run_adding c (grid0.coords t) (xbuf t) (xbuf_whole t) (wbuf t) (wbuf_whole t) (bbuf t) (bbuf_whole t) (obuf t) (obuf_whole t)
    s1buf (Memref.isWhole_whole _) s2buf (Memref.isWhole_whole _) cntbuf (Memref.isWhole_whole _) scbuf (Memref.isWhole_whole _)
    (hs.mpr hlt) (fun h => hz (hb.mp h)) (ha.mpr hz) (fun h => absurd (hw.mp h) (by omega)) (iblk m c 0 t) (iblk m c 1 t) (iblk m c 2 t) ((dats m 0 c).before 3 t e) (sums m c (t.val - 1) (by omega)).1 (sums m c (t.val - 1) (by omega)).2.1 (sums m c (t.val - 1) (by omega)).2.2 d9 Set.univ (fun _ => _))
  isplitl [H0]; · iexact H0
  isplitl [H1]; · iexact H1
  isplitl [H2]; · iexact H2
  isplitl [H5]; · iexact H5
  isplitl [H6]; · iexact H6
  isplitl [H7]; · iexact H7
  isplitl [H8]; · iexact H8
  isplitl [H9]; · iexact H9
  iintro ⟨H0, H1, H2, H5, H6, H7, H8, H9⟩
  isplitl [H6 H7 H8 H9 Hg]
  · isplitl [H6 H7 H8 H9]
    · isplitl [H6]; · iexact H6
      isplitl [H7]; · iexact H7
      isplitl [H8]; · iexact H8
      iexists _; isplitr; swap; · iexact H9
      ipureintro; exact fun h => absurd h (by omega)
    iexact Hg
  isplitl [Ho]; · iexact Ho
  isplitl [H0]; · iexact H0
  isplitl [H1]; · iexact H1
  isplitl [H2]; · iexact H2
  iexists _; iexact H5

/-- The first writing step. -/
theorem body_turning (c : Dev nD) (t : Fin cfg0.N) (hge : 8 ≤ t.val % 16) (h8 : t.val % 16 = 8) :
    bodyPre m c t ⊢ wp frame (wpE (defs₀ (F := F)) Variants.none c none) Set.univ (bodyAt0 t) (fun _ => bodyPost m c t) := by
  obtain ⟨hs, hb, ha, hw, ht⟩ := conds t
  unfold bodyPre bodyPost bodyAt0
  simp only [before_x, before_w, before_b]
  rw [leaves_writing m c t hge, inv_succ, inv_castSucc, carried_succ, owes_succ]
  rw [carried_pos m c t (by omega)]
  iintro ⟨⟨⟨H6, H7, H8, ⟨%d9, %hk, H9⟩⟩, Hg⟩, Ho, ⟨%_, H0⟩, ⟨%_, H1⟩, ⟨%_, H2⟩, ⟨%e, H5⟩⟩
  iapply (run_turning c (grid0.coords t) (xbuf t) (xbuf_whole t) (wbuf t) (wbuf_whole t) (bbuf t) (bbuf_whole t) (obuf t) (obuf_whole t)
    s1buf (Memref.isWhole_whole _) s2buf (Memref.isWhole_whole _) cntbuf (Memref.isWhole_whole _) scbuf (Memref.isWhole_whole _)
    (fun h => absurd (hs.mp h) (by omega)) (hw.mpr hge) (ht.mpr h8) (iblk m c 0 t) (iblk m c 1 t) (iblk m c 2 t) ((dats m 0 c).before 3 t e) (sums m c (t.val - 1) (by omega)).1 (sums m c (t.val - 1) (by omega)).2.1 (sums m c (t.val - 1) (by omega)).2.2 d9 Set.univ (fun _ => _))
  isplitl [H0]; · iexact H0
  isplitl [H1]; · iexact H1
  isplitl [H2]; · iexact H2
  isplitl [H5]; · iexact H5
  isplitl [H6]; · iexact H6
  isplitl [H7]; · iexact H7
  isplitl [H8]; · iexact H8
  isplitl [H9]; · iexact H9
  iintro ⟨H0, H1, H2, H5, H6, H7, H8, ⟨%d, %hd, H9⟩⟩
  isplitl [H6 H7 H8 H9 Hg]
  · isplitl [H6 H7 H8 H9]
    · isplitl [H6]; · rw [sums_writing m c t hge]; iexact H6
      isplitl [H7]; · rw [sums_writing m c t hge]; iexact H7
      isplitl [H8]; · rw [sums_writing m c t hge]; iexact H8
      iexists _; isplitr; swap; · iexact H9
      ipureintro; exact fun _ => ⟨hd.1.trans (scale_now m c t hge).symm, hd.2.trans (shift_now m c t hge).symm⟩
    iexact Hg
  isplitl [Ho]; · iexact Ho
  isplitl [H0]; · iexact H0
  isplitl [H1]; · iexact H1
  isplitl [H2]; · iexact H2
  rw [result_turning m c t hge]; iexact H5

/-- The later writing steps. -/
theorem body_writing (c : Dev nD) (t : Fin cfg0.N) (hge : 8 ≤ t.val % 16) (h8 : t.val % 16 ≠ 8) :
    bodyPre m c t ⊢ wp frame (wpE (defs₀ (F := F)) Variants.none c none) Set.univ (bodyAt0 t) (fun _ => bodyPost m c t) := by
  obtain ⟨hs, hb, ha, hw, ht⟩ := conds t
  unfold bodyPre bodyPost bodyAt0
  simp only [before_x, before_w, before_b]
  rw [leaves_writing m c t hge, inv_succ, inv_castSucc, carried_succ, owes_succ]
  rw [carried_pos m c t (by omega)]
  iintro ⟨⟨⟨H6, H7, H8, ⟨%d9, %hk, H9⟩⟩, Hg⟩, Ho, ⟨%_, H0⟩, ⟨%_, H1⟩, ⟨%_, H2⟩, ⟨%e, H5⟩⟩
  iapply (run_writing c (grid0.coords t) (xbuf t) (xbuf_whole t) (wbuf t) (wbuf_whole t) (bbuf t) (bbuf_whole t) (obuf t) (obuf_whole t)
    s1buf (Memref.isWhole_whole _) s2buf (Memref.isWhole_whole _) cntbuf (Memref.isWhole_whole _) scbuf (Memref.isWhole_whole _)
    (fun h => absurd (hs.mp h) (by omega)) (hw.mpr hge) (fun h => h8 (ht.mp h)) (iblk m c 0 t) (iblk m c 1 t) (iblk m c 2 t) ((dats m 0 c).before 3 t e) (sums m c (t.val - 1) (by omega)).1 (sums m c (t.val - 1) (by omega)).2.1 (sums m c (t.val - 1) (by omega)).2.2 d9 Set.univ (fun _ => _))
  isplitl [H0]; · iexact H0
  isplitl [H1]; · iexact H1
  isplitl [H2]; · iexact H2
  isplitl [H5]; · iexact H5
  isplitl [H6]; · iexact H6
  isplitl [H7]; · iexact H7
  isplitl [H8]; · iexact H8
  isplitl [H9]; · iexact H9
  iintro ⟨H0, H1, H2, H5, H6, H7, H8, H9⟩
  isplitl [H6 H7 H8 H9 Hg]
  · isplitl [H6 H7 H8 H9]
    · isplitl [H6]; · rw [sums_writing m c t hge]; iexact H6
      isplitl [H7]; · rw [sums_writing m c t hge]; iexact H7
      isplitl [H8]; · rw [sums_writing m c t hge]; iexact H8
      iexists _; isplitr; swap; · iexact H9
      ipureintro; exact fun _ => ⟨(hk (by omega)).1.trans (scale_keep m c t hge).symm, (hk (by omega)).2.trans (shift_keep m c t hge).symm⟩
    iexact Hg
  isplitl [Ho]; · iexact Ho
  isplitl [H0]; · iexact H0
  isplitl [H1]; · iexact H1
  isplitl [H2]; · iexact H2
  rw [result_writing m c t hge d9 (hk (by omega))]; iexact H5

/-- The body at any point. -/
theorem body_at (c : Dev nD) (t : Fin cfg0.N) :
    bodyPre m c t ⊢ wp frame (wpE (defs₀ (F := F)) Variants.none c none) Set.univ (bodyAt0 t) (fun _ => bodyPost m c t) := by
  by_cases hlt : t.val % 16 < 8
  · by_cases hz : t.val % 16 = 0
    · exact body_starting m c t hlt hz
    · exact body_adding m c t hlt hz
  · by_cases h8 : t.val % 16 = 8
    · exact body_turning m c t (by omega) h8
    · exact body_writing m c t (by omega) h8

/-- The body's label at a point is the body there. -/
theorem defs₀_at (t : Fin cfg0.N) : defs₀ (F := F) .tc cfg0.body (cfg0.bodyArgs t (cfg0.slots t)) = bodyAt0 t := by
  unfold defs₀; rw [Defs.onTc_tc]

/-- The body's triple at every point. -/
theorem body_obligation (c : Dev nD) : BodyObligation (dats (F := F) m 0 c) (defs₀ (F := F)) Variants.none () Set.univ := fun t => by
  rw [bigSep_W0, bigSep_W0, defs₀_at]
  exact triple_restated (body_at m c t) rfl .rfl fun _ => .rfl

/-- What the launch hands the region is what is carried into the first point. -/
theorem carried_in (c : Dev nD) : Pipeline.ΦA spec0 c ⊢ (dats m 0 c).Φ 0 := .rfl

/-- What is carried out of the last point gives back what the launch handed out. -/
theorem carried_out (c : Dev nD) : (dats m 0 c).Φ (Fin.last cfg0.N) ⊢ Pipeline.ΦA spec0 c := by
  have h := inv_succ m c ⟨127, by decide⟩
  rw [carried_succ] at h
  rw [show (Fin.last cfg0.N) = (⟨127, by decide⟩ : Fin cfg0.N).succ from rfl, h, own_eq]
  iintro ⟨⟨H1, H2, H3, ⟨%d, -, H4⟩⟩, Hg⟩
  isplitl [H1 H2 H3 H4]
  · isplitl [H1]; · iexists _; iexact H1
    isplitl [H2]; · iexists _; iexact H2
    isplitl [H3]; · iexists _; iexact H3
    iexists _; iexact H4
  iexact Hg

set_option backward.isDefEq.respectTransparency.types false in
/-- The launch: every final state has every array of the pipeline at the contents the proof data names, and every
    counter at zero. -/
theorem run_named : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_in m) (hout := carried_out m)

/-- The argument arrays end as launched, and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_named m ρ)))
    ((θ_run defs _ _).mono (fun _ h => h.2) (run_named m ρ))

end Cert.KernelIdeal.Body

end
-- ==== Proof.Printed.lean ====
/- The kernel as printed runs as the kernel read over the extended reals does: no operation was rewritten between the
   two, so they are one program, and the run proved for any floats serves both. -/
module

public import proofs.«01_k».proof.Proof.Gen.Kernel
public import proofs.«01_k».proof.Proof.Launch

@[expose] public section

noncomputable section

namespace Cert.Printed

open Idealize.ShloMosaic Idealize.SL.Sem

variable {F : FTy → Type} [FloatOps F]

/-- The two tables of bodies agree: their one label runs the same function. -/
theorem bodies : Kernel.defs₀ (F := F) = KernelIdeal.defs₀ (F := F) := by
  refine congrArg (Defs.onTc (nD := KernelIdeal.nD) (τ := KernelIdeal.τ) (sig := KernelIdeal.sig) (Val := Elt F) (Λ := KernelIdeal.Λ₀)) ?_
  funext l a
  match l, a with
  | ⟨0, _⟩, (t, s) => rfl

/-- So do the whole tables. -/
theorem tables : Kernel.defs (F := F) = KernelIdeal.defs (F := F) :=
  congrArg (Pipeline.defs (KernelIdeal.pcfgs (F := F))) bodies

/-- The printed kernel terminates without a fault, with its arguments unchanged and every counter at zero. -/
theorem frame_run (m : (ℓ : Loc Kernel.nD Kernel.τ Kernel.sig) → Buf (Elt F) ℓ) (ρ : Dev Kernel.nD → PrngReg) :
    θ_run (Kernel.defs (F := F)) (onTc (τ := Kernel.τ) (Kernel.main (F := F))) ⟨m, fun _ => 0, ρ⟩ (fun r => (∀ c : Dev Kernel.nD,
      r.2.mem ((c.tc : Thread Kernel.nD Kernel.τ).loc Kernel.main_arg0) = m ((c.tc : Thread Kernel.nD Kernel.τ).loc Kernel.main_arg0)
      ∧ r.2.mem ((c.tc : Thread Kernel.nD Kernel.τ).loc Kernel.main_arg1) = m ((c.tc : Thread Kernel.nD Kernel.τ).loc Kernel.main_arg1)
      ∧ r.2.mem ((c.tc : Thread Kernel.nD Kernel.τ).loc Kernel.main_arg2) = m ((c.tc : Thread Kernel.nD Kernel.τ).loc Kernel.main_arg2))
      ∧ r.2.sem = fun _ => 0) := by
  rw [tables]
  exact KernelIdeal.Body.frame_run m ρ

end Cert.Printed

end
-- ==== Proof.Finite.lean ====
/- What the precondition says: every entry of `x` and every weight is a real. -/
module

public import proofs.«01_k».proof.Pre_finite_inputs
public import Idealize.ShloMosaic.Lib.ReduceAll
public import Idealize.ShloMosaic.Lib.Affine
public import Idealize.ShloMosaic.Lib.Pipeline.ValueKit

@[expose] public section

set_option maxRecDepth 16384

noncomputable section

namespace Cert.Pre_finite_inputs

open Idealize.ShloMosaic

/-- The pattern of the greatest value is the greatest extended real. -/
theorem inf_top : Ideal.ofBits .f32 0x7F800000#32 = ⊤ := by
  simp [Ideal.ofBits, Ideal.ieee]

/-- An extended real of magnitude below the greatest is a real. -/
theorem real_of_abs_lt (a : EReal) (h : max a (-a) < ⊤) : ∃ r : ℝ, a = (r : EReal) := by
  induction a using EReal.rec with
  | bot => simp at h
  | top => simp at h
  | coe r => exact ⟨r, rfl⟩

/-- The comparison of the precondition at one entry. -/
theorem real_of_bit {s : Shape} (x : FVec Ideal s .f32) (top : FVec Ideal s .f32) (i : s.Idx) (ht : top i = (⊤ : EReal))
    (h : cmpf .olt (Host.absf x) top i = 1#1) : ∃ r : ℝ, x i = (r : EReal) := by
  refine real_of_abs_lt (x i) ?_
  have h' : Ideal.cmp .olt (max (x i : EReal) (-(x i : EReal))) (top i) = 1#1 := h
  rw [ht] at h'
  have h2 : BitVec.ofBool (decide (max (x i : EReal) (-(x i : EReal)) < ⊤)) = 1#1 := h'
  by_contra hn
  rw [decide_eq_false hn] at h2
  exact absurd h2 (by decide)

/-- A scalar has one index. -/
instance : Subsingleton S_.Idx := ⟨fun a b => funext fun k => k.elim0⟩

/-- The shapes of the precondition fit. -/
theorem facts : Facts where
  bcast_S_S8x64x512x512 := by decide
  reducesTo_S8x64x512x512_S_d0_1_2_3 := by decide
  h_S_ := by decide
  bcast_S_S64 := by decide
  reducesTo_S64_S_d0 := by decide

/-- Under the precondition every entry of `x` and every weight is a real. -/
theorem real_inputs [Facts] (x : FVec Ideal S8x64x512x512 .f32) (w b : FVec Ideal S64 .f32)
    (h : fn (F := Ideal) x w b = fun _ => 1#1) :
    (∀ i, ∃ r : ℝ, x i = (r : EReal)) ∧ ∀ i, ∃ r : ℝ, w i = (r : EReal) := by
  have h0 := congrFun h (fun k => k.elim0)
  dsimp only [fn] at h0
  have h1 := IntOp.andi_eq_one.mp h0
  refine ⟨fun i => ?_, fun i => ?_⟩
  · exact real_of_bit x _ i inf_top (Host.reduce_andi_all _ _ _ _ _ h1.1 i)
  · exact real_of_bit w _ i inf_top (Host.reduce_andi_all _ _ _ _ _ h1.2 i)

end Cert.Pre_finite_inputs

end
-- ==== Proof.Equation.lean ====
/- The mathematics of the normalization: folded into one scale and one shift per channel, it is the normalization as
   written. Nothing here mentions a program. -/
module

public import Idealize.ShloMosaic.Lib.IdealHost

@[expose] public section

noncomputable section

namespace Cert.Equation

open Idealize.ShloMosaic

/-- A finite sum of reals, read among the extended reals, is the sum of its terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pattern of the constant added to the variance is a positive real. -/
theorem eps_real : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

/-- Dividing by a real that is not zero. -/
theorem div_real (a : ℝ) {b : ℝ} (h : b ≠ 0) : Ideal.div (a : EReal) (b : EReal) = ((a / b : ℝ) : EReal) := by
  rw [Ideal.div_coe h, ← EReal.coe_mul, mul_one_div]

/-- The inverse root of a positive real. -/
theorem rsqrt_real {a : ℝ} (h : 0 < a) : Ideal.rsqrt (a : EReal) = (((Real.sqrt a)⁻¹ : ℝ) : EReal) := by
  rw [Ideal.rsqrt_coe, if_neg (not_lt.mpr h.le), if_neg h.ne']

/-- The root of a positive real. -/
theorem sqrt_real {a : ℝ} (h : 0 < a) : Ideal.sqrt (a : EReal) = ((Real.sqrt a : ℝ) : EReal) := by
  rw [Ideal.sqrt_coe, if_neg (not_lt.mpr h.le)]

/-- The greater of two reals, read among the extended reals. -/
theorem max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

section Real
variable {ι κ : Type*} [Fintype ι] [Fintype κ]

/-- The mean of the squared deviations over the valid entries is the mean square less the squared mean: entries that
    are not valid are zero. -/
theorem variance (x k : ι → κ → ℝ) (hk : ∀ r l, k r l = 1 ∨ (k r l = 0 ∧ x r l = 0)) (n : ℝ) (hn : n = ∑ r, ∑ l, k r l) (h0 : n ≠ 0) :
    (∑ r, ∑ l, (x r l - (∑ r, ∑ l, x r l) / n) * (x r l - (∑ r, ∑ l, x r l) / n) * k r l) / n
      = (∑ r, ∑ l, x r l * x r l) / n - ((∑ r, ∑ l, x r l) / n) * ((∑ r, ∑ l, x r l) / n) := by
  set s := ∑ r, ∑ l, x r l with hs
  have hterm : ∀ r l, (x r l - s / n) * (x r l - s / n) * k r l
      = x r l * x r l - 2 * (s / n) * x r l + (s / n) * (s / n) * k r l := by
    intro r l
    rcases hk r l with h | ⟨h, h'⟩
    · rw [h]; ring
    · rw [h, h']; ring
  simp only [hterm, Finset.sum_add_distrib, Finset.sum_sub_distrib, ← Finset.mul_sum, ← hs, ← hn]
  field_simp
  ring

/-- It is not negative. -/
theorem variance_nonneg (x k : ι → κ → ℝ) (hk : ∀ r l, k r l = 1 ∨ (k r l = 0 ∧ x r l = 0)) (μ n : ℝ) (hn : 0 ≤ n) :
    0 ≤ (∑ r, ∑ l, (x r l - μ) * (x r l - μ) * k r l) / n := by
  refine div_nonneg (Finset.sum_nonneg fun r _ => Finset.sum_nonneg fun l _ => mul_nonneg (mul_self_nonneg _) ?_) hn
  rcases hk r l with h | ⟨h, -⟩ <;> simp [h]
end Real

/-- The normalization of a pixel, folded: the scale times the pixel plus the shift. The pixel, the weight, the mean and
    the spread are real; the bias need not be. -/
theorem fold_affine (x w μ ρ : ℝ) (β : EReal) (h : ρ ≠ 0) :
    (x : EReal) * ((w * ρ⁻¹ : ℝ) : EReal) + (β - ((μ * (w * ρ⁻¹) : ℝ) : EReal)) = (((x - μ) / ρ : ℝ) : EReal) * (w : EReal) + β := by
  induction β using EReal.rec with
  | bot => simp
  | top => rw [EReal.top_sub_coe, ← EReal.coe_mul, EReal.coe_add_top, ← EReal.coe_mul, EReal.coe_add_top]
  | coe b =>
    rw [← EReal.coe_sub, ← EReal.coe_mul, ← EReal.coe_mul, ← EReal.coe_add, ← EReal.coe_add]
    congr 1
    field_simp
    ring

section Agree
variable {ι κ : Type*} [Fintype ι] [Fintype κ]

/-- How many entries are valid. -/
abbrev count (p : ι → κ → Prop) [∀ r l, Decidable (p r l)] : EReal := ∑ r, ∑ l, if p r l then 1 else 0

/-- The mean by the sum over all entries. -/
abbrev meanAll (x : ι → κ → EReal) (p : ι → κ → Prop) [∀ r l, Decidable (p r l)] : EReal :=
  Ideal.div (∑ r, ∑ l, x r l) (max (count p) 1)

/-- The weight over the spread, by the mean square less the squared mean. -/
abbrev gain (x : ι → κ → EReal) (p : ι → κ → Prop) [∀ r l, Decidable (p r l)] (w : EReal) : EReal :=
  w * Ideal.rsqrt (max (Ideal.div (∑ r, ∑ l, x r l * x r l) (max (count p) 1) - meanAll x p * meanAll x p) 0 + Ideal.ofBits .f32 0x3727C5AC#32)

/-- The folded form at one entry: valid entries take the scale and the shift, the others the weight and the bias. -/
abbrev folded (x : ι → κ → EReal) (p : ι → κ → Prop) [∀ r l, Decidable (p r l)] (w β : EReal) (r : ι) (l : κ) : EReal :=
  (x r l * if p r l then (if 1 < count p then gain x p w else w) else w)
    + if p r l then (if 1 < count p then β - meanAll x p * gain x p w else β) else β

/-- The mean over the valid entries. -/
abbrev meanValid (x : ι → κ → EReal) (p : ι → κ → Prop) [∀ r l, Decidable (p r l)] : EReal :=
  Ideal.div (∑ r, ∑ l, x r l * if p r l then 1 else 0) (max (count p) 1)

/-- The form as written at one entry. -/
abbrev written (x : ι → κ → EReal) (p : ι → κ → Prop) [∀ r l, Decidable (p r l)] (w β : EReal) (r : ι) (l : κ) : EReal :=
  (if 1 < count p then
    if (if p r l then 1 else 0 : EReal) = 1 then
      Ideal.div (x r l - meanValid x p)
        (Ideal.sqrt (Ideal.div (∑ r, ∑ l, (x r l - meanValid x p) * (x r l - meanValid x p) * if p r l then 1 else 0) (max (count p) 1)
          + Ideal.ofBits .f32 0x3727C5AC#32))
    else x r l
  else x r l) * w + β

/-- The two forms agree where the entries and the weight are real and the entries that are not valid are zero. -/
theorem folded_eq_written (x : ι → κ → ℝ) (p : ι → κ → Prop) [∀ r l, Decidable (p r l)] (hp : ∀ r l, ¬p r l → x r l = 0)
    (w : ℝ) (β : EReal) (r : ι) (l : κ) :
    folded (fun r l => (x r l : EReal)) p (w : EReal) β r l = written (fun r l => (x r l : EReal)) p (w : EReal) β r l := by
  obtain ⟨e, he, hE⟩ := eps_real
  have hcount : count p = ((∑ r, ∑ l, (if p r l then 1 else 0 : ℝ) : ℝ) : EReal) := by
    rw [coe_sum]; refine Finset.sum_congr rfl fun r _ => ?_
    rw [coe_sum]; refine Finset.sum_congr rfl fun l _ => ?_
    split <;> simp
  by_cases h1 : 1 < count p
  swap
  · simp only [folded, written, if_neg h1, ite_self]
  by_cases hv : p r l
  swap
  · simp only [folded, written, if_neg hv, if_pos h1, zero_ne_one, if_false]
  have hn1 : (1 : ℝ) < ∑ r, ∑ l, (if p r l then 1 else 0 : ℝ) := by
    rw [hcount] at h1; exact_mod_cast h1
  set n : ℝ := ∑ r, ∑ l, (if p r l then 1 else 0 : ℝ) with hn
  have hn0 : n ≠ 0 := by linarith
  have hmax : max (count p) 1 = (n : EReal) := by rw [max_eq_left h1.le, hcount]
  have hsum : (∑ r, ∑ l, (x r l : EReal)) = ((∑ r, ∑ l, x r l : ℝ) : EReal) := by
    rw [coe_sum]; exact Finset.sum_congr rfl fun r _ => (coe_sum _ _).symm
  have hsq : (∑ r, ∑ l, (x r l : EReal) * (x r l : EReal)) = ((∑ r, ∑ l, x r l * x r l : ℝ) : EReal) := by
    rw [coe_sum]; refine Finset.sum_congr rfl fun r _ => ?_
    rw [coe_sum]; exact Finset.sum_congr rfl fun l _ => (EReal.coe_mul _ _).symm
  have hvalid : (∑ r, ∑ l, (x r l : EReal) * (if p r l then 1 else 0 : EReal)) = ((∑ r, ∑ l, x r l : ℝ) : EReal) := by
    rw [← hsum]; refine Finset.sum_congr rfl fun r _ => Finset.sum_congr rfl fun l _ => ?_
    by_cases h : p r l
    · rw [if_pos h, mul_one]
    · rw [if_neg h, mul_zero, hp r l h, EReal.coe_zero]
  set μ : ℝ := (∑ r, ∑ l, x r l) / n with hμ
  have hmeanA : meanAll (fun r l => (x r l : EReal)) p = (μ : EReal) := by
    unfold meanAll; rw [hmax, hsum, div_real _ hn0]
  have hmeanV : meanValid (fun r l => (x r l : EReal)) p = (μ : EReal) := by
    unfold meanValid; rw [hmax, hvalid, div_real _ hn0]
  have hk : ∀ r l, (if p r l then 1 else 0 : ℝ) = 1 ∨ ((if p r l then 1 else 0 : ℝ) = 0 ∧ x r l = 0) := by
    intro r l
    by_cases h : p r l
    · exact .inl (if_pos h)
    · exact .inr ⟨if_neg h, hp r l h⟩
  have hvar := variance x (fun r l => if p r l then 1 else 0) hk n hn hn0
  have hpos := variance_nonneg x (fun r l => if p r l then 1 else 0) hk μ n (by linarith)
  set v : ℝ := (∑ r, ∑ l, (x r l - μ) * (x r l - μ) * (if p r l then 1 else 0)) / n with hvdef
  have hdev : (∑ r, ∑ l, ((x r l : EReal) - (μ : EReal)) * ((x r l : EReal) - (μ : EReal)) * (if p r l then 1 else 0 : EReal))
      = ((∑ r, ∑ l, (x r l - μ) * (x r l - μ) * (if p r l then 1 else 0) : ℝ) : EReal) := by
    rw [coe_sum]; refine Finset.sum_congr rfl fun r _ => ?_
    rw [coe_sum]; refine Finset.sum_congr rfl fun l _ => ?_
    by_cases h : p r l
    · rw [if_pos h, if_pos h, mul_one, mul_one, EReal.coe_mul, EReal.coe_sub]
    · rw [if_neg h, if_neg h, mul_zero, mul_zero, EReal.coe_zero]
  have hve : 0 < v + e := by linarith
  have hgain : gain (fun r l => (x r l : EReal)) p (w : EReal) = ((w * (Real.sqrt (v + e))⁻¹ : ℝ) : EReal) := by
    unfold gain
    rw [hmeanA, hmax, hsq, div_real _ hn0, ← EReal.coe_mul, ← EReal.coe_sub, ← hvar, ← EReal.coe_zero, max_real, max_eq_left hpos, hE,
      ← EReal.coe_add, rsqrt_real hve, ← EReal.coe_mul]
  unfold folded written
  rw [if_pos hv, if_pos hv, if_pos h1, if_pos h1, if_pos h1, if_pos hv, if_pos rfl, hgain, hmeanA, hmeanV, hmax, hdev, div_real _ hn0, hE,
    ← EReal.coe_add, sqrt_real hve, ← EReal.coe_sub, div_real _ (Real.sqrt_ne_zero'.mpr hve), ← EReal.coe_mul]
  exact fold_affine _ _ _ _ _ (Real.sqrt_ne_zero'.mpr hve)
end Agree

end Cert.Equation

end
-- ==== Proof.Reference.lean ====
/- What the reference computes, entry by entry. -/
module

public import proofs.«01_k».proof.Proof.Gen.ReferenceIdeal.Run
public import proofs.«01_k».proof.Proof.Equation
public import Idealize.ShloMosaic.Lib.Pipeline.ValueKit
public import Idealize.ShloMosaic.Lib.Quiescent

@[expose] public section

set_option maxRecDepth 16384

noncomputable section

namespace Cert.ReferenceIdeal.Value

open Idealize.ShloMosaic Idealize.SL.Sem Cert.ReferenceIdeal Cert.ReferenceIdeal.Gen
open scoped Classical

/-- A pixel of image `b` counts when the magnitudes over its channels do not sum to zero. -/
abbrev counts (X : FVec Ideal S8x64x512x512 .f32) (b : Fin 8) (r l : Fin 512) : Prop :=
  (∑ ch, (FloatOps.absf (X (ix4 b ch r l)) : EReal)) ≠ 0

/-- A decided bit taken as a number is one or zero. -/
theorem number_of_bit (p : Prop) [Decidable p] :
    (FloatOps.uitofp .f32 (BitVec.ofBool (decide p)) : Ideal .f32) = if p then (1 : EReal) else 0 := by
  by_cases h : p
  · rw [decide_eq_true h, if_pos h]
    change (((BitVec.ofBool true).toNat : ℝ) : EReal) = 1
    simp
  · rw [decide_eq_false h, if_neg h]
    change (((BitVec.ofBool false).toNat : ℝ) : EReal) = 0
    simp

/-- The reference's result at one entry. -/
theorem res_apply (m : (ℓ : Loc nD τ sig) → Buf (Elt Ideal) ℓ) (c : Dev nD) (X : FVec Ideal S8x64x512x512 .f32) (W B : FVec Ideal S64 .f32)
    (hX : m ((c.tc : Thread nD τ).loc main_arg0) = X) (hW : m ((c.tc : Thread nD τ).loc main_arg1) = W)
    (hB : m ((c.tc : Thread nD τ).loc main_arg2) = B) (b : Fin 8) (d : Fin 64) (r l : Fin 512) :
    (res_main_v43 m c (ix4 b d r l) : EReal)
      = Equation.written (fun r l => X (ix4 b d r l)) (counts X b) (W (ix1 d)) (B (ix1 d)) r l := by
  unfold res_main_v43
  rw [hX, hW, hB]
  pointwise
  simp only [number_of_bit]

/-- The reference's run ends with every counter at zero, its program having none, and with its arguments unchanged. -/
theorem run_quiet (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems (by decide) r.2⟩) (run m ρ)

end Cert.ReferenceIdeal.Value

end
-- ==== Proof.Blocks.lean ====
/- Where each grid point's blocks lie in the argument arrays. -/
module

public import proofs.«01_k».proof.Proof.Launch
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The argument `x`. -/
def xarr (c : Dev nD) : FVec Ideal S8x64x512x512 .f32 := m ((c : Thread nD τ).loc main_arg0)
/-- The weights. -/
def warr (c : Dev nD) : FVec Ideal S64 .f32 := m ((c : Thread nD τ).loc main_arg1)
/-- The biases. -/
def barr (c : Dev nD) : FVec Ideal S64 .f32 := m ((c : Thread nD τ).loc main_arg2)
/-- The block of `x` at a point. -/
def xblk (c : Dev nD) (t : Fin cfg0.N) : FVec Ideal S1x64x64x512 .f32 := iblk m c 0 t
/-- The weights' block at a point. -/
def wblk (c : Dev nD) (t : Fin cfg0.N) : FVec Ideal S1x64x1x1 .f32 := iblk m c 1 t
/-- The biases' block at a point. -/
def bblk (c : Dev nD) (t : Fin cfg0.N) : FVec Ideal S1x64x1x1 .f32 := iblk m c 2 t

/-- The image a point works on. -/
def image (n : ℕ) : Fin 8 := ⟨n / 16 % 8, by omega⟩
/-- The band of rows a point works on: bands are walked down while summing and back up while writing. -/
def band (n : ℕ) : ℕ := if n % 16 < 8 then n % 16 else 15 - n % 16
/-- Row `r` of band `k`. -/
def row (k : ℕ) (r : Fin 64) : Fin 512 := ⟨(64 * k + r.val) % 512, by omega⟩

/-- Every window's block index at every point. -/
theorem idx : ∀ t : Fin cfg0.N, win0_0.index t = ![t.val / 16, 0, band t.val, 0] ∧ win0_1.index t = ![0, 0, 0, 0]
    ∧ win0_2.index t = ![0, 0, 0, 0] ∧ win0_3.index t = ![t.val / 16, 0, if t.val % 16 < 8 then 7 else 15 - t.val % 16, 0] :=
  (by decide +kernel : ∀ t : Fin grid0.N, win0_0.index t = ![t.val / 16, 0, band t.val, 0] ∧ win0_1.index t = ![0, 0, 0, 0]
    ∧ win0_2.index t = ![0, 0, 0, 0] ∧ win0_3.index t = ![t.val / 16, 0, if t.val % 16 < 8 then 7 else 15 - t.val % 16, 0])

/-- There are eight bands. -/
theorem band_lt (n : ℕ) : band n < 8 := by unfold band; split <;> omega

/-- The block of `x` at a point. -/
theorem xblk_apply (c : Dev nD) (t : Fin cfg0.N) (ch r : Fin 64) (l : Fin 512) :
    xblk m c t (ix4 0 ch r l)
      = xarr m c (ix4 (image t.val) ch (row (band t.val) r) l) := by
  have hN : t.val < 128 := lt_of_lt_of_eq t.isLt (show cfg0.N = 128 from N_0)
  have hb := band_lt t.val
  unfold xblk xarr
  blk_ext [iblk, V, idx t, image, row]

/-- The weights' block at a point. -/
theorem wblk_apply (c : Dev nD) (t : Fin cfg0.N) (ch : Fin 64) :
    wblk m c t (ix4 0 ch 0 0)
      = warr m c (ix1 ch) := by
  have h : wblk m c t (ix4 0 ch 0 0) = (show FVec Ideal S1x64x1x1 .f32 from V m c main_v0) (ix4 0 ch 0 0) := by
    unfold wblk
    blk_ext [iblk, idx t]
  rw [h]
  entry_read
  pointwise
  rfl

/-- The biases' block at a point. -/
theorem bblk_apply (c : Dev nD) (t : Fin cfg0.N) (ch : Fin 64) :
    bblk m c t (ix4 0 ch 0 0)
      = barr m c (ix1 ch) := by
  have h : bblk m c t (ix4 0 ch 0 0) = (show FVec Ideal S1x64x1x1 .f32 from V m c main_v1) (ix4 0 ch 0 0) := by
    unfold bblk
    blk_ext [iblk, idx t]
  rw [h]
  entry_read
  pointwise
  rfl

end Cert.KernelIdeal.Value

end
-- ==== Proof.Sums.lean ====
/- What the running sums hold at each step, and what they come to over a whole image. -/
module

public import proofs.«01_k».proof.Proof.Blocks
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Whether a pixel is valid: its channels' magnitudes do not sum to zero. -/
abbrev valid (X : FVec Ideal S8x64x512x512 .f32) (b : Fin 8) (r l : Fin 512) : Prop :=
  (∑ ch : Fin 64, (FloatOps.absf (X (ix4 b ch r l)) : EReal)) ≠ 0

/-- A condition widened to a word and converted is one where it holds and zero elsewhere. -/
theorem flag (p : Prop) [Decidable p] :
    (FloatOps.sitofp .f32 (BitVec.setWidth 32 (BitVec.ofBool (decide p))) : Ideal .f32) = (if p then 1 else 0 : EReal) := by
  show (((BitVec.setWidth 32 (BitVec.ofBool (decide p))).toInt : ℝ) : EReal) = _
  by_cases h : p <;> simp [h]

/-- A block's sum over its rows. -/
theorem rows_x (x : FVec Ideal S1x64x64x512 .f32) (ch : Fin 64) (l : Fin 512) :
    (k0_pay5 (F := Ideal) x (ix4 0 ch 0 l) : EReal) = ∑ r : Fin 64, x (ix4 0 ch r l) := by
  pointwise [k0_pay5, k0_pay2]

/-- A block's sum of squares over its rows. -/
theorem rows_xx (x : FVec Ideal S1x64x64x512 .f32) (ch : Fin 64) (l : Fin 512) :
    (k0_pay6 (F := Ideal) x (ix4 0 ch 0 l) : EReal) = ∑ r : Fin 64, x (ix4 0 ch r l) * x (ix4 0 ch r l) := by
  pointwise [k0_pay6, k0_pay3]

/-- A block's count of valid pixels over its rows. -/
theorem rows_cnt (x : FVec Ideal S1x64x64x512 .f32) (l : Fin 512) :
    (k0_pay7 (F := Ideal) x (ix4 0 0 0 l) : EReal)
      = ∑ r : Fin 64, if (∑ ch : Fin 64, (FloatOps.absf (x (ix4 0 ch r l)) : EReal)) ≠ 0 then (1 : EReal) else 0 := by
  pointwise [k0_pay7, k0_pay4, k0_pay1]
  exact Finset.sum_congr rfl fun r _ => flag _

/-- Adding a block's sums to those before it. -/
theorem add_x (x : FVec Ideal S1x64x64x512 .f32) (s : FVec Ideal S1x64x1x512 .f32) (ch : Fin 64) (l : Fin 512) :
    (k0_pay8 (F := Ideal) x s (ix4 0 ch 0 l) : EReal) = s (ix4 0 ch 0 l) + ∑ r : Fin 64, x (ix4 0 ch r l) := by
  pointwise [k0_pay8, k0_pay2]

/-- The running sum of squares takes on the block's column sums of squares. -/
theorem add_xx (x : FVec Ideal S1x64x64x512 .f32) (s : FVec Ideal S1x64x1x512 .f32) (ch : Fin 64) (l : Fin 512) :
    (k0_pay9 (F := Ideal) x s (ix4 0 ch 0 l) : EReal) = s (ix4 0 ch 0 l) + ∑ r : Fin 64, x (ix4 0 ch r l) * x (ix4 0 ch r l) := by
  pointwise [k0_pay9, k0_pay3]

/-- The running count takes on the block's column counts. -/
theorem add_cnt (x : FVec Ideal S1x64x64x512 .f32) (s : FVec Ideal S1x1x1x512 .f32) (l : Fin 512) :
    (k0_pay10 (F := Ideal) x s (ix4 0 0 0 l) : EReal)
      = s (ix4 0 0 0 l) + ∑ r : Fin 64, if (∑ ch : Fin 64, (FloatOps.absf (x (ix4 0 ch r l)) : EReal)) ≠ 0 then (1 : EReal) else 0 := by
  pointwise [k0_pay10, k0_pay4, k0_pay1]
  exact congrArg _ (Finset.sum_congr rfl fun r _ => flag _)

/-- What is started at a row's first step, added to at its next seven and left at its last eight is, at any step, the
    sum of the terms so far. -/
theorem run_sum {N : ℕ} (S : (n : ℕ) → n < N → EReal) (f : ℕ → ℕ → EReal)
    (h0 : ∀ n h, n % 16 = 0 → S n h = f (n / 16) 0)
    (h1 : ∀ n h, n % 16 ≠ 0 → n % 16 < 8 → S n h = S (n - 1) (by omega) + f (n / 16) (n % 16))
    (h2 : ∀ n h, 8 ≤ n % 16 → S n h = S (n - 1) (by omega)) :
    ∀ n h, S n h = ∑ k ∈ Finset.range (min (n % 16 + 1) 8), f (n / 16) k := by
  intro n
  induction n with
  | zero => intro h; rw [h0 0 h rfl]; simp
  | succ n ih =>
    intro h
    by_cases hz : (n + 1) % 16 = 0
    · rw [h0 _ h hz, hz]; simp
    have hq : (n + 1) / 16 = n / 16 := by omega
    by_cases hl : (n + 1) % 16 < 8
    · rw [h1 _ h hz hl, hq]
      simp only [Nat.add_sub_cancel]
      rw [ih, show min ((n + 1) % 16 + 1) 8 = min (n % 16 + 1) 8 + 1 by omega, Finset.sum_range_succ,
        show min (n % 16 + 1) 8 = (n + 1) % 16 by omega]
    · rw [h2 _ h (by omega), hq]
      simp only [Nat.add_sub_cancel]
      rw [ih, show min ((n + 1) % 16 + 1) 8 = min (n % 16 + 1) 8 by omega]

/-- The eight bands' rows are all the rows. -/
theorem rows_total (g : Fin 512 → EReal) : ∑ k ∈ Finset.range 8, ∑ r : Fin 64, g (row k r) = ∑ i, g i := by
  rw [Finset.sum_range, ← Fintype.sum_prod_type']
  refine Fintype.sum_equiv finProdFinEquiv _ _ fun p => congrArg g (Fin.ext ?_)
  have h1 := p.1.isLt
  have h2 := p.2.isLt
  show (64 * p.1.val + p.2.val) % 512 = p.2.val + 64 * p.1.val
  omega

/-- The lanes' sums over the eight bands, summed over the lanes, are the sum over the image. -/
theorem image_total (g : Fin 512 → Fin 512 → EReal) :
    ∑ l : Fin 512, ∑ k ∈ Finset.range 8, ∑ r : Fin 64, g (row k r) l = ∑ i, ∑ l, g i l := by
  rw [Finset.sum_comm (s := Finset.univ) (t := Finset.univ) (f := fun i l => g i l)]
  exact Finset.sum_congr rfl fun l _ => rows_total fun i => g i l

/-- The image numbered `q`. -/
def imageOf (q : ℕ) : Fin 8 := ⟨q % 8, by omega⟩

/-- A block read at a summing step. -/
theorem xblk_summing (c : Dev nD) (n : ℕ) (h : n < cfg0.N) (hl : n % 16 < 8) (ch r : Fin 64) (l : Fin 512) :
    xblk m c ⟨n, h⟩ (ix4 0 ch r l)
      = xarr m c (ix4 (imageOf (n / 16)) ch (row (n % 16) r) l) := by
  refine (xblk_apply m c ⟨n, h⟩ ch r l).trans ?_
  rw [show band n = n % 16 from if_pos hl]; rfl

/-- The running sum at any step. -/
theorem sums_x (c : Dev nD) (n : ℕ) (h : n < cfg0.N) (ch : Fin 64) (l : Fin 512) :
    ((Body.sums m c n h).1 (ix4 0 ch 0 l) : EReal) = ∑ k ∈ Finset.range (min (n % 16 + 1) 8), ∑ r : Fin 64,
      xarr m c (ix4 (imageOf (n / 16)) ch (row k r) l) := by
  refine run_sum (fun n h => ((Body.sums m c n h).1 (ix4 0 ch 0 l) : EReal))
    (fun q k => ∑ r : Fin 64, xarr m c (ix4 (imageOf q) ch (row k r) l))
    (fun n h hz => ?_) (fun n h hz hl => ?_) (fun n h hg => ?_) n h
  · rw [Body.sums_starting m c ⟨n, h⟩ hz]
    refine (rows_x (xblk m c ⟨n, h⟩) ch l).trans (Finset.sum_congr rfl fun r _ => ?_)
    rw [xblk_summing m c n h (by omega) ch r l, hz]
  · rw [Body.sums_adding m c ⟨n, h⟩ hz hl]
    refine (add_x (xblk m c ⟨n, h⟩) _ ch l).trans (congrArg _ (Finset.sum_congr rfl fun r _ => ?_))
    exact xblk_summing m c n h hl ch r l
  · rw [Body.sums_writing m c ⟨n, h⟩ hg]

/-- The running sum of squares at any step. -/
theorem sums_xx (c : Dev nD) (n : ℕ) (h : n < cfg0.N) (ch : Fin 64) (l : Fin 512) :
    ((Body.sums m c n h).2.1 (ix4 0 ch 0 l) : EReal) = ∑ k ∈ Finset.range (min (n % 16 + 1) 8), ∑ r : Fin 64,
      xarr m c (ix4 (imageOf (n / 16)) ch (row k r) l)
        * xarr m c (ix4 (imageOf (n / 16)) ch (row k r) l) := by
  refine run_sum (fun n h => ((Body.sums m c n h).2.1 (ix4 0 ch 0 l) : EReal))
    (fun q k => ∑ r : Fin 64, xarr m c (ix4 (imageOf q) ch (row k r) l)
        * xarr m c (ix4 (imageOf q) ch (row k r) l))
    (fun n h hz => ?_) (fun n h hz hl => ?_) (fun n h hg => ?_) n h
  · rw [Body.sums_starting m c ⟨n, h⟩ hz]
    refine (rows_xx (xblk m c ⟨n, h⟩) ch l).trans (Finset.sum_congr rfl fun r _ => ?_)
    rw [xblk_summing m c n h (by omega) ch r l, hz]
  · rw [Body.sums_adding m c ⟨n, h⟩ hz hl]
    refine (add_xx (xblk m c ⟨n, h⟩) _ ch l).trans (congrArg _ (Finset.sum_congr rfl fun r _ => ?_))
    rw [xblk_summing m c n h hl ch r l]
  · rw [Body.sums_writing m c ⟨n, h⟩ hg]

/-- The running count at any step. -/
theorem sums_cnt (c : Dev nD) (n : ℕ) (h : n < cfg0.N) (l : Fin 512) :
    ((Body.sums m c n h).2.2 (ix4 0 0 0 l) : EReal) = ∑ k ∈ Finset.range (min (n % 16 + 1) 8), ∑ r : Fin 64,
      if valid (xarr m c) (imageOf (n / 16)) (row k r) l then 1 else 0 := by
  refine run_sum (fun n h => ((Body.sums m c n h).2.2 (ix4 0 0 0 l) : EReal))
    (fun q k => ∑ r : Fin 64, if valid (xarr m c) (imageOf q) (row k r) l then 1 else 0)
    (fun n h hz => ?_) (fun n h hz hl => ?_) (fun n h hg => ?_) n h
  · rw [Body.sums_starting m c ⟨n, h⟩ hz]
    refine (rows_cnt (xblk m c ⟨n, h⟩) l).trans (Finset.sum_congr rfl fun r _ => ?_)
    simp only [xblk_summing m c n h (by omega) _ r l, hz]
  · rw [Body.sums_adding m c ⟨n, h⟩ hz hl]
    refine (add_cnt (xblk m c ⟨n, h⟩) _ l).trans (congrArg _ (Finset.sum_congr rfl fun r _ => ?_))
    simp only [xblk_summing m c n h hl _ r l]
  · rw [Body.sums_writing m c ⟨n, h⟩ hg]

/-- From a row's eighth step on, the lanes' running sums together are the image's sum, -/
theorem total_x (c : Dev nD) (n : ℕ) (h : n < cfg0.N) (hg : 7 ≤ n % 16) (ch : Fin 64) :
    (∑ l : Fin 512, ((Body.sums m c n h).1 (ix4 0 ch 0 l) : EReal))
      = ∑ i, ∑ l, xarr m c (ix4 (imageOf (n / 16)) ch i l) := by
  refine (Finset.sum_congr rfl fun l _ => sums_x m c n h ch l).trans ?_
  rw [show min (n % 16 + 1) 8 = 8 by omega]
  exact image_total fun i l => xarr m c (ix4 (imageOf (n / 16)) ch i l)

/-- the running sums of squares the image's sum of squares, -/
theorem total_xx (c : Dev nD) (n : ℕ) (h : n < cfg0.N) (hg : 7 ≤ n % 16) (ch : Fin 64) :
    (∑ l : Fin 512, ((Body.sums m c n h).2.1 (ix4 0 ch 0 l) : EReal))
      = ∑ i, ∑ l, xarr m c (ix4 (imageOf (n / 16)) ch i l)
          * xarr m c (ix4 (imageOf (n / 16)) ch i l) := by
  refine (Finset.sum_congr rfl fun l _ => sums_xx m c n h ch l).trans ?_
  rw [show min (n % 16 + 1) 8 = 8 by omega]
  exact image_total fun i l => xarr m c (ix4 (imageOf (n / 16)) ch i l)
          * xarr m c (ix4 (imageOf (n / 16)) ch i l)

/-- and the running counts the image's count of valid pixels. -/
theorem total_cnt (c : Dev nD) (n : ℕ) (h : n < cfg0.N) (hg : 7 ≤ n % 16) :
    (∑ l : Fin 512, ((Body.sums m c n h).2.2 (ix4 0 0 0 l) : EReal))
      = ∑ i, ∑ l, if valid (xarr m c) (imageOf (n / 16)) i l then (1 : EReal) else 0 := by
  refine (Finset.sum_congr rfl fun l _ => sums_cnt m c n h l).trans ?_
  rw [show min (n % 16 + 1) 8 = 8 by omega]
  exact image_total fun i l => if valid (xarr m c) (imageOf (n / 16)) i l then (1 : EReal) else 0

end Cert.KernelIdeal.Value

end
-- ==== Proof.Result.lean ====
/- What the result array holds after the run. -/
module

public import proofs.«01_k».proof.Proof.Sums
public import proofs.«01_k».proof.Proof.Equation
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The scale a kernel step computes from totals. -/
theorem scale_formula (w : FVec Ideal S1x64x1x1 .f32) (s1 s2 : FVec Ideal S1x64x1x512 .f32) (n : FVec Ideal S1x1x1x512 .f32) (ch : Fin 64) :
    (k0_pay20 (F := Ideal) (k0_pay11 (F := Ideal) w) s1 s2 n (ix4 0 ch 0 0) : EReal)
      = if 1 < ∑ l, n (ix4 0 0 0 l) then
          w (ix4 0 ch 0 0) * Ideal.rsqrt (max (Ideal.div (∑ l, s2 (ix4 0 ch 0 l)) (max (∑ l, n (ix4 0 0 0 l)) 1)
            - Ideal.div (∑ l, s1 (ix4 0 ch 0 l)) (max (∑ l, n (ix4 0 0 0 l)) 1) * Ideal.div (∑ l, s1 (ix4 0 ch 0 l)) (max (∑ l, n (ix4 0 0 0 l)) 1)) 0
            + Ideal.ofBits .f32 0x3727C5AC#32)
        else w (ix4 0 ch 0 0) := by
  pointwise [k0_pay20, k0_pay11, k0_pay18, k0_pay19, k0_pay17, k0_pay16, k0_pay15]

/-- The shift a kernel step computes from totals. -/
theorem shift_formula (w b : FVec Ideal S1x64x1x1 .f32) (s1 s2 : FVec Ideal S1x64x1x512 .f32) (n : FVec Ideal S1x1x1x512 .f32) (ch : Fin 64) :
    (k0_pay13 (F := Ideal) (k0_pay21 (F := Ideal) (k0_pay11 (F := Ideal) w) (k0_pay12 (F := Ideal) b) s1 s2 n) (ix4 0 ch 0 0) : EReal)
      = if 1 < ∑ l, n (ix4 0 0 0 l) then
          b (ix4 0 ch 0 0) - Ideal.div (∑ l, s1 (ix4 0 ch 0 l)) (max (∑ l, n (ix4 0 0 0 l)) 1)
            * (w (ix4 0 ch 0 0) * Ideal.rsqrt (max (Ideal.div (∑ l, s2 (ix4 0 ch 0 l)) (max (∑ l, n (ix4 0 0 0 l)) 1)
              - Ideal.div (∑ l, s1 (ix4 0 ch 0 l)) (max (∑ l, n (ix4 0 0 0 l)) 1) * Ideal.div (∑ l, s1 (ix4 0 ch 0 l)) (max (∑ l, n (ix4 0 0 0 l)) 1)) 0
              + Ideal.ofBits .f32 0x3727C5AC#32))
        else b (ix4 0 ch 0 0) := by
  pointwise [k0_pay13, k0_pay21, k0_pay11, k0_pay12, k0_pay18, k0_pay19, k0_pay17, k0_pay16, k0_pay15]

/-- The block a kernel step stores. -/
theorem store_formula (x : FVec Ideal S1x64x64x512 .f32) (w b sc sh : FVec Ideal S1x64x1x1 .f32) (ch r : Fin 64) (l : Fin 512) :
    (k0_pay14 (F := Ideal) x w b sc sh (ix4 0 ch r l) : EReal)
      = (x (ix4 0 ch r l) * if (∑ ch : Fin 64, (FloatOps.absf (x (ix4 0 ch r l)) : EReal)) ≠ 0 then sc (ix4 0 ch 0 0) else w (ix4 0 ch 0 0))
        + if (∑ ch : Fin 64, (FloatOps.absf (x (ix4 0 ch r l)) : EReal)) ≠ 0 then sh (ix4 0 ch 0 0) else b (ix4 0 ch 0 0) := by
  pointwise [k0_pay14, k0_pay1, k0_pay11, k0_pay12]

/-- One channel of one image. -/
abbrev plane (c : Dev nD) (b : Fin 8) (ch : Fin 64) : Fin 512 → Fin 512 → EReal := fun r l => xarr m c (ix4 b ch r l)

/-- The scale at a writing step is the gain of the image's channel. -/
theorem scale_apply (c : Dev nD) (t : Fin cfg0.N) (hg : 8 ≤ t.val % 16) (ch : Fin 64) :
    (Body.scale m c t (ix4 0 ch 0 0) : EReal)
      = if 1 < Equation.count (valid (xarr m c) (imageOf (t.val / 16))) then
          Equation.gain (plane m c (imageOf (t.val / 16)) ch) (valid (xarr m c) (imageOf (t.val / 16))) (warr m c (ix1 ch))
        else warr m c (ix1 ch) := by
  unfold Body.scale
  refine (scale_formula (wblk m c t) _ _ _ ch).trans ?_
  rw [total_x m c t.val t.isLt (by omega) ch, total_xx m c t.val t.isLt (by omega) ch, total_cnt m c t.val t.isLt (by omega), wblk_apply m c t ch]

/-- The shift at a writing step. -/
theorem shift_apply (c : Dev nD) (t : Fin cfg0.N) (hg : 8 ≤ t.val % 16) (ch : Fin 64) :
    (Body.shift m c t (ix4 0 ch 0 0) : EReal)
      = if 1 < Equation.count (valid (xarr m c) (imageOf (t.val / 16))) then
          barr m c (ix1 ch) - Equation.meanAll (plane m c (imageOf (t.val / 16)) ch) (valid (xarr m c) (imageOf (t.val / 16)))
            * Equation.gain (plane m c (imageOf (t.val / 16)) ch) (valid (xarr m c) (imageOf (t.val / 16))) (warr m c (ix1 ch))
        else barr m c (ix1 ch) := by
  unfold Body.shift
  refine (shift_formula (wblk m c t) (bblk m c t) _ _ _ ch).trans ?_
  rw [total_x m c t.val t.isLt (by omega) ch, total_xx m c t.val t.isLt (by omega) ch, total_cnt m c t.val t.isLt (by omega), wblk_apply m c t ch,
    bblk_apply m c t ch]

/-- The result the kernel computes, at an index. -/
def normed (c : Dev nD) : FVec Ideal S8x64x512x512 .f32 := fun i =>
  Equation.folded (plane m c (i 0) (i 1)) (valid (xarr m c) (i 0)) (warr m c (ix1 (i 1))) (barr m c (ix1 (i 1))) (i 2) (i 3)

/-- The block stored at a writing step is the result's there. -/
theorem result_apply (c : Dev nD) (t : Fin cfg0.N) (hg : 8 ≤ t.val % 16) (ch r : Fin 64) (l : Fin 512) :
    (Body.result m c t (ix4 0 ch r l) : EReal) = normed m c (ix4 (image t.val) ch (row (band t.val) r) l) := by
  unfold Body.result
  refine (store_formula (xblk m c t) (wblk m c t) (bblk m c t) _ _ ch r l).trans ?_
  simp only [xblk_apply m c t _ r l]
  rw [scale_apply m c t hg ch, shift_apply m c t hg ch, wblk_apply m c t ch, bblk_apply m c t ch]
  rfl

/-- The result array after the run. -/
theorem final (c : Dev nD) : (Body.dats m 0 c).arrAt 3 (cfgs 0).N = normed m c := by
  refine (Body.dats m 0 c).arrAt_eq_of_covers 3 _ (by decide +kernel) fun t hf y => ?_
  have hg := (Body.flush_result t).mp hf
  blk_simp
  rw [Body.after_o]
  have hN : t.val < 128 := lt_of_lt_of_eq t.isLt (show cfg0.N = 128 from N_0)
  have hb : (if t.val % 16 < 8 then 7 else 15 - t.val % 16) = band t.val := by unfold band; rw [if_neg (by omega), if_neg (by omega)]
  have hb8 := band_lt t.val
  have h3 : win0_3.index t = ![t.val / 16, 0, band t.val, 0] := by rw [(idx t).2.2.2, hb]
  have hy : (show S1x64x64x512.Idx from y) = ix4 0 (show Fin 64 from y 1) (show Fin 64 from y 2) (show Fin 512 from y 3) := by blk_ext [idx t]
  have he : (show S8x64x512x512.Idx from (win0_3.blk t).view.emb y)
      = ix4 (image t.val) (show Fin 64 from y 1) (row (band t.val) (show Fin 64 from y 2)) (show Fin 512 from y 3) := by
    blk_ext [h3, image, row]
  exact (congrArg (Body.result m c t) hy).trans ((result_apply m c t hg (y 1) (y 2) (y 3)).trans (congrArg (normed m c) he.symm))

/-- The kernel's run: the result array ends at the normalization, the arguments end unchanged. -/
theorem run_normed (ρ : Dev nD → PrngReg) : θ_run defs (onTc (τ := τ) (main (F := Ideal))) ⟨m, fun _ => 0, ρ⟩ (fun r => ∀ c : Dev nD,
      r.2.mem ((c.tc : Thread nD τ).loc main_v2) = normed m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1.1 c).1 3).trans (final m c), h.2.1 c⟩)
    (θ_run_and (Body.run_named m ρ) (Body.frame_run m ρ))

end Cert.KernelIdeal.Value

end
-- ==== Proof.Agree.lean ====
/- Under the precondition the kernel's result array is the reference's. -/
module

public import proofs.«01_k».proof.Proof.Finite
public import proofs.«01_k».proof.Proof.Reference
public import proofs.«01_k».proof.Proof.Result

@[expose] public section

set_option maxRecDepth 16384

noncomputable section

namespace Cert.Agree

open Idealize.ShloMosaic Idealize.SL.Sem

/-- When the magnitudes over a pixel's channels sum to zero, each channel's entry is zero. -/
theorem zero_of_sum {ι : Type*} [Fintype ι] (f : ι → EReal) (h : ∑ i, (FloatOps.absf (φ := .f32) (show Ideal .f32 from f i) : EReal) = 0) (i : ι) :
    f i = 0 := by
  have h' : ∑ i, max (f i) (-(f i)) = 0 := h
  have hn : ∀ a : EReal, 0 ≤ max a (-a) := fun a => by
    rcases le_total 0 a with ha | ha
    · exact ha.trans (le_max_left _ _)
    · exact (EReal.neg_nonneg.mpr ha).trans (le_max_right _ _)
  have hi := (Finset.sum_eq_zero_iff_of_nonneg fun i _ => hn (f i)).mp h' i (Finset.mem_univ i)
  refine le_antisymm (hi ▸ le_max_left _ _) ?_
  have hn := EReal.neg_le_neg_iff.mpr (hi ▸ le_max_right (f i) (-(f i)) : -(f i) ≤ 0)
  simpa using hn

/-- The kernel's array is the reference's. -/
theorem arrays [Cert.Pre_finite_inputs.Facts] (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hp : Cert.Pre_finite_inputs.fn (F := Ideal) (KernelIdeal.Value.xarr m c) (KernelIdeal.Value.warr m c) (KernelIdeal.Value.barr m c) = fun _ => 1#1)
    (h0 : m' ((c.tc : Thread ReferenceIdeal.nD ReferenceIdeal.τ).loc ReferenceIdeal.main_arg0) = KernelIdeal.Value.xarr m c)
    (h1 : m' ((c.tc : Thread ReferenceIdeal.nD ReferenceIdeal.τ).loc ReferenceIdeal.main_arg1) = KernelIdeal.Value.warr m c)
    (h2 : m' ((c.tc : Thread ReferenceIdeal.nD ReferenceIdeal.τ).loc ReferenceIdeal.main_arg2) = KernelIdeal.Value.barr m c) :
    KernelIdeal.Value.normed m c = ReferenceIdeal.Value.res_main_v43 m' c := by
  obtain ⟨hx, hw⟩ := Cert.Pre_finite_inputs.real_inputs _ _ _ hp
  choose x hx using hx
  choose w hw using hw
  funext i
  obtain ⟨b, d, r, l, rfl⟩ : ∃ (b : Fin 8) (d : Fin 64) (r l : Fin 512), i = ix4 b d r l := ⟨i 0, i 1, i 2, i 3, by blk_ext []⟩
  refine Eq.trans ?_ (ReferenceIdeal.Value.res_apply m' c _ _ _ h0 h1 h2 b d r l).symm
  have hz : ∀ r l, ¬ KernelIdeal.Value.valid (KernelIdeal.Value.xarr m c) b r l → x (ix4 b d r l) = 0 := fun r l hv => by
    have h := zero_of_sum (fun ch => KernelIdeal.Value.xarr m c (ix4 b ch r l)) (not_not.mp hv) d
    exact EReal.coe_eq_zero.mp ((hx (ix4 b d r l)).symm.trans h)
  have hplane : KernelIdeal.Value.plane m c b d = fun r l => ((x (ix4 b d r l) : ℝ) : EReal) := funext fun r => funext fun l => hx (ix4 b d r l)
  have h := Equation.folded_eq_written (fun r l => x (ix4 b d r l)) _ hz (w (ix1 d)) (KernelIdeal.Value.barr m c (ix1 d)) r l
  rw [← hplane, ← hw (ix1 d)] at h
  exact h

end Cert.Agree

end
-- ==== Proof.lean ====
/- The claims, put together: the kernel runs and leaves its arguments and its counters as it found them, printed and
   read over the extended reals; so does the reference; and where the entries of `x` and `weight` are finite the two
   end with the same array. -/
module

public import proofs.«01_k».proof.Defs
public import proofs.«01_k».proof.Proof.Gen.Kernel
public import proofs.«01_k».proof.Proof.Printed
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The two programs end with the same array, when every entry of `x` and every weight is finite. -/
theorem value : algebraic_KernelIdeal_ReferenceIdeal_pre_finite_inputs (hKernelIdeal := Cert.KernelIdeal.Gen.facts)
    (hReferenceIdeal := Cert.ReferenceIdeal.Gen.facts) (hPre_finite_inputs := Cert.Pre_finite_inputs.facts) := by
  intro m g m' g' hp ha
  refine ⟨fun c => KernelIdeal.Value.normed m c, KernelIdeal.Value.run_normed m g, ?_⟩
  refine (θ_run ReferenceIdeal.defs _ _).mono (fun r h c => ⟨(h c).1.trans ?_, (h c).2⟩) (ReferenceIdeal.Value.run m' g')
  exact (@Cert.Agree.arrays Cert.Pre_finite_inputs.facts m m' c (hp c) (ha c).1 (ha c).2.1 (ha c).2.2).symm

/-- Every claim of the certificate. -/
theorem claim : Cert.Claim :=
  ⟨Cert.Kernel.Gen.facts, Cert.KernelIdeal.Gen.facts, Cert.ReferenceIdeal.Gen.facts, Cert.Pre_finite_inputs.facts,
    fun m g _ => Cert.Printed.frame_run m g,
    fun m g _ => Cert.KernelIdeal.Body.frame_run m g,
    fun m g _ => Cert.KernelIdeal.Body.frame_run m g,
    fun m g _ => Cert.ReferenceIdeal.Value.run_quiet m g,
    fun m g _ => Cert.ReferenceIdeal.Value.run_quiet m g,
    trivial,
    value⟩

end Cert.Proof

end
